-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x3 : Shape := ⟨3, ![4, 8192, 3]⟩
abbrev S4x2048x3 : Shape := ⟨3, ![4, 2048, 3]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_
  bcast_S_S4x64x8192 : S_.BroadcastsInDim S4x64x8192 (![] : Fin 0 → Fin S4x64x8192.rank)
  reducesTo_S4x64x8192_S_d0_1_2 : S4x64x8192.ReducesTo [0, 1, 2] S_
  bcast_S_S4x128x2048 : S_.BroadcastsInDim S4x128x2048 (![] : Fin 0 → Fin S4x128x2048.rank)
  reducesTo_S4x128x2048_S_d0_1_2 : S4x128x2048.ReducesTo [0, 1, 2] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128x128 .f32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_v13 : IVec S_ 1) (main_v16 : IVec S4x128x2048 1) : IVec S_ 1 :=
  let main_c_5 : IVec S_ 1 := constantI S_ 1 1#1
  let main_v17 : IVec S_ 1 := (fun x v => Host.reduce IntOp.andi x v reducesTo_S4x128x2048_S_d0_1_2 h_S_) main_v16 main_c_5
  let main_v18 : IVec S_ 1 := andi main_v13 main_v17
  let main_v19 : FVec F S128x192 .f32 := Host.absf main_arg4
  let main_cst_6 : FVec F S_ .f32 := constant S_ .f32 0x7F800000#32
  let main_v20 : FVec F S128x192 .f32 := broadcastInDim S128x192 ![] bcast_S_S128x192 main_cst_6
  let main_v21 : IVec S128x192 1 := cmpf .olt main_v19 main_v20
  let main_c_7 : IVec S_ 1 := constantI S_ 1 1#1
  let main_v22 : IVec S_ 1 := (fun x v => Host.reduce IntOp.andi x v reducesTo_S128x192_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4x8192x3 .f32) (main_arg1 : FVec F S4x2048x3 .f32) (main_arg2 : FVec F S4x64x8192 .f32) (main_arg3 : FVec F S4x128x2048 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  let main_v9 : FVec F S4x64x8192 .f32 := Host.absf main_arg2
  let main_cst_2 : FVec F S_ .f32 := constant S_ .f32 0x7F800000#32
  let main_v10 : FVec F S4x64x8192 .f32 := broadcastInDim S4x64x8192 ![] bcast_S_S4x64x8192 main_cst_2
  let main_v11 : IVec S4x64x8192 1 := cmpf .olt main_v9 main_v10
  let main_c_3 : IVec S_ 1 := constantI S_ 1 1#1
  let main_v12 : IVec S_ 1 := (fun x v => Host.reduce IntOp.andi x v reducesTo_S4x64x8192_S_d0_1_2 h_S_) main_v11 main_c_3
  let main_v13 : IVec S_ 1 := andi main_v8 main_v12
  let main_v14 : FVec F S4x128x2048 .f32 := Host.absf main_arg3
  let main_cst_4 : FVec F S_ .f32 := constant S_ .f32 0x7F800000#32
  let main_v15 : FVec F S4x128x2048 .f32 := broadcastInDim S4x128x2048 ![] bcast_S_S4x128x2048 main_cst_4
  let main_v16 : IVec S4x128x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4x8192x3 : Shape := ⟨3, ![4, 8192, 3]⟩
abbrev S4x2048x3 : Shape := ⟨3, ![4, 2048, 3]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S4x3x8192 : Shape := ⟨3, ![4, 3, 8192]⟩
abbrev S1x4096x3 : Shape := ⟨3, ![1, 4096, 3]⟩
abbrev S1x2048x3 : Shape := ⟨3, ![1, 2048, 3]⟩
abbrev S1x3x4096 : Shape := ⟨3, ![1, 3, 4096]⟩
abbrev S4096x3 : Shape := ⟨2, ![4096, 3]⟩
abbrev S2048x3 : Shape := ⟨2, ![2048, 3]⟩
abbrev S4096 : Shape := ⟨1, ![4096]⟩
abbrev S2048 : Shape := ⟨1, ![2048]⟩
abbrev S4096x2048 : Shape := ⟨2, ![4096, 2048]⟩
abbrev S4096x1 : Shape := ⟨2, ![4096, 1]⟩
abbrev S1x2048 : Shape := ⟨2, ![1, 2048]⟩
abbrev S1x4096 : Shape := ⟨2, ![1, 4096]⟩
abbrev S3x4096 : Shape := ⟨2, ![3, 4096]⟩
abbrev S4x2048x128 : Shape := ⟨3, ![4, 2048, 128]⟩
abbrev S8192x128 : Shape := ⟨2, ![8192, 128]⟩
abbrev S98304 : Shape := ⟨1, ![98304]⟩
abbrev S98304x128 : Shape := ⟨2, ![98304, 128]⟩
abbrev S512 : Shape := ⟨1, ![512]⟩
abbrev S512x128 : Shape := ⟨2, ![512, 128]⟩
abbrev S_ : Shape := ⟨0, ![]⟩
abbrev S4x3x8192x128 : Shape := ⟨4, ![4, 3, 8192, 128]⟩
abbrev S128x64 : Shape := ⟨2, ![128, 64]⟩
abbrev S128x1 : Shape := ⟨2, ![128, 1]⟩
abbrev S4x128x8192 : Shape := ⟨3, ![4, 128, 8192]⟩
abbrev S2x128 : Shape := ⟨2, ![2, 128]⟩
abbrev S1x3x4096x128 : Shape := ⟨4, ![1, 3, 4096, 128]⟩
abbrev S1x64x4096 : Shape := ⟨3, ![1, 64, 4096]⟩
abbrev S1x128x4096 : Shape := ⟨3, ![1, 128, 4096]⟩
abbrev S3x4096x128 : Shape := ⟨3, ![3, 4096, 128]⟩
abbrev S1x4096x128 : Shape := ⟨3, ![1, 4096, 128]⟩
abbrev S4096x128 : Shape := ⟨2, ![4096, 128]⟩
abbrev S64x4096 : Shape := ⟨2, ![64, 4096]⟩
abbrev S128x4096 : Shape := ⟨2, ![128, 4096]⟩
abbrev S1x128 : Shape := ⟨2, ![1, 128]⟩

abbrev nBuf : Table → Nat
  | .hbm => 98
  | .local .tc .vmem => 48
  | .local .scVector .vmem => 2
  | _ => 0

abbrev bufTy : (tb : Table) → Fin (nBuf tb) → BufTy
  | .hbm, ⟨0, _⟩ => ⟨S4x8192x3, .f32⟩
  | .hbm, ⟨1, _⟩ => ⟨S4x2048x3, .f32⟩
  | .hbm, ⟨2, _⟩ => ⟨S4x64x8192, .f32⟩
  | .hbm, ⟨3, _⟩ => ⟨S4x128x2048, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S4x3x8192, .i32⟩
  | .hbm, ⟨17, _⟩ => ⟨S4x3x8192, .f32⟩
  | .hbm, ⟨18, _⟩ => ⟨S4x2048x128, .f32⟩
  | .hbm, ⟨19, _⟩ => ⟨S8192x128, .f32⟩
  | .hbm, ⟨20, _⟩ => ⟨S98304, .i32⟩
  | .hbm, ⟨21, _⟩ => ⟨S98304x128, .f32⟩
  | .hbm, ⟨22, _⟩ => ⟨S4x3x8192x128, .f32⟩
  | .hbm, ⟨23, _⟩ => ⟨S128x64, .f32⟩
  | .hbm, ⟨24, _⟩ => ⟨S128x128, .f32⟩
  | .hbm, ⟨25, _⟩ => ⟨S128x1, .f32⟩
  | .hbm, ⟨26, _⟩ => ⟨S4x128x8192, .f32⟩
  | .hbm, ⟨27, _⟩ => ⟨S2x128, .f32⟩
  | .hbm, ⟨28, _⟩ => ⟨S1x128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S4x128x8192, .f32⟩
  | .hbm, ⟨51, _⟩ => ⟨S2x128, .f32⟩
  | .hbm, ⟨52, _⟩ => ⟨S1x128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S128x1, .f32⟩
  | .hbm, ⟨72, _⟩ => ⟨S128x1, .f32⟩
  | .hbm, ⟨73, _⟩ => ⟨S128x1, .f32⟩
  | .hbm, ⟨74, _⟩ => ⟨S4x128x8192, .f32⟩
  | .hbm, ⟨75, _⟩ => ⟨S2x128, .f32⟩
  | .hbm, ⟨76, _⟩ => ⟨S1x128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128x1, .f32⟩
  | .hbm, ⟨96, _⟩ => ⟨S128x1, .f32⟩
  | .hbm, ⟨97, _⟩ => ⟨S4x128x8192, .f32⟩
  | .local .tc .vmem, ⟨0, _⟩ => ⟨S1x4096x3, .f32⟩
  | .local .tc .vmem, ⟨1, _⟩ => ⟨S1x4096x3, .f32⟩
  | .local .tc .vmem, ⟨2, _⟩ => ⟨S1x2048x3, .f32⟩
  | .local .tc .vmem, ⟨3, _⟩ => ⟨S1x2048x3, .f32⟩
  | .local .tc .vmem, ⟨4, _⟩ => ⟨S1x3x4096, .i32⟩
  | .local .tc .vmem, ⟨5, _⟩ => ⟨S1x3x4096, .i32⟩
  | .local .tc .vmem, ⟨6, _⟩ => ⟨S1x3x4096, .f32⟩
  | .local .tc .vmem, ⟨7, _⟩ => ⟨S1x3x4096, .f32⟩
  | .local .tc .vmem, ⟨8, _⟩ => ⟨S1x3x4096x128, .f32⟩
  | .local .tc .vmem, ⟨9, _⟩ => ⟨S1x3x4096x128, .f32⟩
  | .local .tc .vmem, ⟨10, _⟩ => ⟨S1x3x4096, .f32⟩
  | .local .tc .vmem, ⟨11, _⟩ => ⟨S1x3x4096, .f32⟩
  | .local .tc .vmem, ⟨12, _⟩ => ⟨S1x64x4096, .f32⟩
  | .local .tc .vmem, ⟨13, _⟩ => ⟨S1x64x4096, .f32⟩
  | .local .tc .vmem, ⟨14, _⟩ => ⟨S128x64, .f32⟩
  | .local .tc .vmem, ⟨15, _⟩ => ⟨S128x128, .f32⟩
  | .local .tc .vmem, ⟨16, _⟩ => ⟨S128x1, .f32⟩
  | .local .tc .vmem, ⟨17, _⟩ => ⟨S1x128x4096, .f32⟩
  | .local .tc .vmem, ⟨18, _⟩ => ⟨S1x128x4096, .f32⟩
  | .local .tc .vmem, ⟨19, _⟩ => ⟨S2x128, .f32⟩
  | .local .tc .vmem, ⟨20, _⟩ => ⟨S1x128x4096, .f32⟩
  | .local .tc .vmem, ⟨21, _⟩ => ⟨S1x128x4096, .f32⟩
  | .local .tc .vmem, ⟨22, _⟩ => ⟨S128x1, .f32⟩
  | .local .tc .vmem, ⟨23, _⟩ => ⟨S128x1, .f32⟩
  | .local .tc .vmem, ⟨24, _⟩ => ⟨S128x128, .f32⟩
  | .local .tc .vmem, ⟨25, _⟩ => ⟨S128x1, .f32⟩
  | .local .tc .vmem, ⟨26, _⟩ => ⟨S1x128x4096, .f32⟩
  | .local .tc .vmem, ⟨27, _⟩ => ⟨S1x128x4096, .f32⟩
  | .local .tc .vmem, ⟨28, _⟩ => ⟨S2x128, .f32⟩
  | .local .tc .vmem, ⟨29, _⟩ => ⟨S1x128x4096, .f32⟩
  | .local .tc .vmem, ⟨30, _⟩ => ⟨S1x128x4096, .f32⟩
  | .local .tc .vmem, ⟨31, _⟩ => ⟨S128x1, .f32⟩
  | .local .tc .vmem, ⟨32, _⟩ => ⟨S128x1, .f32⟩
  | .local .tc .vmem, ⟨33, _⟩ => ⟨S128x128, .f32⟩
  | .local .tc .vmem, ⟨34, _⟩ => ⟨S128x1, .f32⟩
  | .local .tc .vmem, ⟨35, _⟩ => ⟨S1x128x4096, .f32⟩
  | .local .tc .vmem, ⟨36, _⟩ => ⟨S1x128x4096, .f32⟩
  | .local .tc .vmem, ⟨37, _⟩ => ⟨S2x128, .f32⟩
  | .local .tc .vmem, ⟨38, _⟩ => ⟨S1x128x4096, .f32⟩
  | .local .tc .vmem, ⟨39, _⟩ => ⟨S1x128x4096, .f32⟩
  | .local .tc .vmem, ⟨40, _⟩ => ⟨S1x128x4096, .f32⟩
  | .local .tc .vmem, ⟨41, _⟩ => ⟨S1x128x4096, .f32⟩
  | .local .tc .vmem, ⟨42, _⟩ => ⟨S128x1, .f32⟩
  | .local .tc .vmem, ⟨43, _⟩ => ⟨S128x1, .f32⟩
  | .local .tc .vmem, ⟨44, _⟩ => ⟨S128x1, .f32⟩
  | .local .tc .vmem, ⟨45, _⟩ => ⟨S128x1, .f32⟩
  | .local .tc .vmem, ⟨46, _⟩ => ⟨S1x128x4096, .f32⟩
  | .local .tc .vmem, ⟨47, _⟩ => ⟨S1x128x4096, .f32⟩
  | .local .scVector .vmem, ⟨0, _⟩ => ⟨S512, .i32⟩
  | .local .scVector .vmem, ⟨1, _⟩ => ⟨S512x128, .f32⟩
  | _, _ => ⟨S4x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTables nBuf rfl bufTy 4 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_6 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_7 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v3_scv : Ref sig .scVector := ⟨.hbm, 20, rfl⟩
abbrev main_v2_scv : Ref sig .scVector := ⟨.hbm, 19, rfl⟩
abbrev main_v4_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc2_stg7_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc4_stg6_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40
abbrev cc3_sem6_0 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem5_1 : DmaSem sig := 49
abbrev cc4_sem6_0 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem6_1 : DmaSem sig := 60
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  v2
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let c0_i32 : BitVec 32 := 0#32
  let v4 : BitVec 32 := Scalar.addi v3 c0_i32
  v4
def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let v4 : BitVec 32 := Scalar.addi v3 c0_i32
  let v5 : BitVec 32 := v4
  ![v5.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let v4 : BitVec 32 := Scalar.addi v3 c0_i32
  let v5 : BitVec 32 := v4
  let c0_i32_24_r1 : BitVec 32 := 0#32
  ![v5.toNat, 0]
def k1_mult3 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let c512_i32 : BitVec 32 := 512#32
  let v8 : BitVec 32 := Scalar.addi v3 c512_i32
  v8
def k1_mult4 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let c1024_i32 : BitVec 32 := 1024#32
  let v12 : BitVec 32 := Scalar.addi v3 c1024_i32
  v12
def k1_mult5 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let c1536_i32 : BitVec 32 := 1536#32
  let v16 : BitVec 32 := Scalar.addi v3 c1536_i32
  v16
def k1_mult6 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let c2048_i32 : BitVec 32 := 2048#32
  let v20 : BitVec 32 := Scalar.addi v3 c2048_i32
  v20
def k1_mult7 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v3 : BitVec 32 := v2
  let c2560_i32 : BitVec 32 := 2560#32
  let v24 : BitVec 32 := Scalar.addi v3 c2560_i32
  v24
abbrev grid2 : Pipeline.Grid := ⟨2, ![4, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x3x4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x128x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 1 → Memref sig .tc .vmem S2x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x128x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x128x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 1 → Memref sig .tc .vmem S2x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev grid4 : Pipeline.Grid := ⟨2, ![4, 2], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x128x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S128x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x128x4096 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 1 → Memref sig .tc .vmem S2x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev grid5 : Pipeline.Grid := ⟨2, ![4, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x128x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x128x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S128x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S128x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S128x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S1x128x4096 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x3 : Shape := ⟨3, ![4, 8192, 3]⟩
abbrev S4x2048x3 : Shape := ⟨3, ![4, 2048, 3]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S4x2048x128 : Shape := ⟨3, ![4, 2048, 128]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4 : Shape := ⟨1, ![4]⟩
abbrev S4x1x1 : Shape := ⟨3, ![4, 1, 1]⟩
abbrev S4x8192x3x1 : Shape := ⟨4, ![4, 8192, 3, 1]⟩
abbrev S4x8192x3x2 : Shape := ⟨4, ![4, 8192, 3, 2]⟩
abbrev S4x8192x3x128 : Shape := ⟨4, ![4, 8192, 3, 128]⟩
abbrev S4x8192x128 : Shape := ⟨3, ![4, 8192, 128]⟩
abbrev S4x8192x64 : Shape := ⟨3, ![4, 8192, 64]⟩
abbrev S4x8192x192 : Shape := ⟨3, ![4, 8192, 192]⟩
abbrev S4x192x8192 : Shape := ⟨3, ![4, 192, 8192]⟩
abbrev S4x128x8192 : Shape := ⟨3, ![4, 128, 8192]⟩
abbrev S1x128x1 : Shape := ⟨3, ![1, 128, 1]⟩

abbrev nBuf : Space → Nat
  | .hbm => 236
  | .vmem => 0
  | .smem => 0
  | _ => 0

abbrev hbmTy0_0 (i : Nat) : BufTy := match i % 128 with
  | 0 => ⟨S4x8192x3, .f32⟩
  | 1 => ⟨S4x2048x3, .f32⟩
  | 2 => ⟨S4x64x8192, .f32⟩
  | 3 => ⟨S4x128x2048, .f32⟩
  | 4 => ⟨S128x192, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S4x2048x128, .f32⟩
  | 17 => ⟨S4x8192x2048, .f32⟩
  | 18 => ⟨S_, .f32⟩
  | 19 => ⟨S4x8192x2048, .f32⟩
  | 20 => ⟨S4x8192x2048, .f32⟩
  | 21 => ⟨S4x8192x3, .f32⟩
  | 22 => ⟨S_, .f32⟩
  | 23 => ⟨S4x8192, .f32⟩
  | 24 => ⟨S4x8192x1, .f32⟩
  | 25 => ⟨S4x8192x2048, .f32⟩
  | 26 => ⟨S4x8192x2048, .f32⟩
  | 27 => ⟨S4x2048x3, .f32⟩
  | 28 => ⟨S_, .f32⟩
  | 29 => ⟨S4x2048, .f32⟩
  | 30 => ⟨S4x1x2048, .f32⟩
  | 31 => ⟨S4x8192x2048, .f32⟩
  | 32 => ⟨S4x8192x2048, .f32⟩
  | 33 => ⟨S4x8192x2048, .i32⟩
  | 34 => ⟨S4x8192x2048, .f32⟩
  | 35 => ⟨S4x8192x2048, .i32⟩
  | 36 => ⟨S4x8192x3, .i32⟩
  | 37 => ⟨S4x8192x2048, .f32⟩
  | 38 => ⟨S4x8192x3, .f32⟩
  | 39 => ⟨S_, .f32⟩
  | 40 => ⟨S4x8192x3, .f32⟩
  | 41 => ⟨S4x8192x3, .f32⟩
  | 42 => ⟨S_, .f32⟩
  | 43 => ⟨S4x8192x3, .f32⟩
  | 44 => ⟨S4x8192x3, .f32⟩
  | 45 => ⟨S_, .f32⟩
  | 46 => ⟨S4x8192, .f32⟩
  | 47 => ⟨S4x8192x1, .f32⟩
  | 48 => ⟨S4x8192x3, .f32⟩
  | 49 => ⟨S4x8192x3, .f32⟩
  | 50 => ⟨S4, .i32⟩
  | 51 => ⟨S4x1x1, .i32⟩
  | 52 => ⟨S_, .i32⟩
  | 53 => ⟨S4x1x1, .i32⟩
  | 54 => ⟨S4x1x1, .i1⟩
  | 55 => ⟨S_, .i32⟩
  | 56 => ⟨S4x1x1, .i32⟩
  | 57 => ⟨S4x1x1, .i32⟩
  | 58 => ⟨S4x1x1, .i32⟩
  | 59 => ⟨S_, .i32⟩
  | 60 => ⟨S4x8192x3, .i32⟩
  | 61 => ⟨S4x8192x3, .i1⟩
  | 62 => ⟨S_, .i32⟩
  | 63 => ⟨S4x8192x3, .i32⟩
  | 64 => ⟨S4x8192x3, .i32⟩
  | 65 => ⟨S4x8192x3, .i32⟩
  | 66 => ⟨S4x8192x3, .i32⟩
  | 67 => ⟨S4x8192x3x1, .i32⟩
  | 68 => ⟨S4x8192x3x1, .i32⟩
  | 69 => ⟨S4x8192x3x2, .i32⟩
  | 70 => ⟨S4x8192x3x128, .f32⟩
  | 71 => ⟨S4x8192x3x1, .f32⟩
  | 72 => ⟨S4x8192x3x128, .f32⟩
  | 73 => ⟨S4x8192x3x128, .f32⟩
  | 74 => ⟨S_, .f32⟩
  | 75 => ⟨S4x8192x128, .f32⟩
  | 76 => ⟨S4x8192x64, .f32⟩
  | 77 => ⟨S4x8192x192, .f32⟩
  | 78 => ⟨S4x192x8192, .f32⟩
  | 79 => ⟨S4x8192x128, .f32⟩
  | 80 => ⟨S4x128x8192, .f32⟩
  | 81 => ⟨S1x128x1, .f32⟩
  | 82 => ⟨S4x128x8192, .f32⟩
  | 83 => ⟨S4x128x8192, .f32⟩
  | 84 => ⟨S_, .f32⟩
  | 85 => ⟨S128, .f32⟩
  | 86 => ⟨S1x128x1, .f32⟩
  | 87 => ⟨S_, .f32⟩
  | 88 => ⟨S1x128x1, .f32⟩
  | 89 => ⟨S1x128x1, .f32⟩
  | 90 => ⟨S_, .i32⟩
  | 91 => ⟨S_, .f32⟩
  | 92 => ⟨S128, .f32⟩
  | 93 => ⟨S1x128x1, .f32⟩
  | 94 => ⟨S_, .f32⟩
  | 95 => ⟨S1x128x1, .f32⟩
  | 96 => ⟨S1x128x1, .f32⟩
  | 97 => ⟨S4x128x8192, .f32⟩
  | 98 => ⟨S4x128x8192, .f32⟩
  | 99 => ⟨S4x128x8192, .f32⟩
  | 100 => ⟨S_, .f32⟩
  | 101 => ⟨S_, .f32⟩
  | 102 => ⟨S_, .f32⟩
  | 103 => ⟨S_, .f32⟩
  | 104 => ⟨S128, .f32⟩
  | 105 => ⟨S1x128x1, .f32⟩
  | 106 => ⟨S1x128x1, .f32⟩
  | 107 => ⟨S1x128x1, .f32⟩
  | 108 => ⟨S_, .f32⟩
  | 109 => ⟨S_, .i1⟩
  | 110 => ⟨S_, .f32⟩
  | 111 => ⟨S_, .f32⟩
  | 112 => ⟨S1x128x1, .f32⟩
  | 113 => ⟨S1x128x1, .f32⟩
  | 114 => ⟨S1x128x1, .f32⟩
  | 115 => ⟨S4x128x8192, .f32⟩
  | 116 => ⟨S4x128x8192, .f32⟩
  | 117 => ⟨S4x128x8192, .f32⟩
  | 118 => ⟨S4x128x8192, .f32⟩
  | 119 => ⟨S_, .f32⟩
  | 120 => ⟨S1x128x1, .f32⟩
  | 121 => ⟨S1x128x1, .f32⟩
  | 122 => ⟨S1x128x1, .f32⟩
  | 123 => ⟨S4x128x8192, .f32⟩
  | 124 => ⟨S4x128x8192, .f32⟩
  | 125 => ⟨S1x128x1, .f32⟩
  | 126 => ⟨S4x128x8192, .f32⟩
  | 127 => ⟨S4x128x8192, .f32⟩
  | _ => ⟨S4x8192x3, .f32⟩

abbrev hbmTy0_1 (i : Nat) : BufTy := match i % 128 with
  | 0 => ⟨S_, .f32⟩
  | 1 => ⟨S4x128x8192, .f32⟩
  | 2 => ⟨S4x128x8192, .f32⟩
  | 3 => ⟨S4x8192x128, .f32⟩
  | 4 => ⟨S4x128x8192, .f32⟩
  | 5 => ⟨S1x128x1, .f32⟩
  | 6 => ⟨S4x128x8192, .f32⟩
  | 7 => ⟨S4x128x8192, .f32⟩
  | 8 => ⟨S_, .f32⟩
  | 9 => ⟨S128, .f32⟩
  | 10 => ⟨S1x128x1, .f32⟩
  | 11 => ⟨S_, .f32⟩
  | 12 => ⟨S1x128x1, .f32⟩
  | 13 => ⟨S1x128x1, .f32⟩
  | 14 => ⟨S_, .i32⟩
  | 15 => ⟨S_, .f32⟩
  | 16 => ⟨S128, .f32⟩
  | 17 => ⟨S1x128x1, .f32⟩
  | 18 => ⟨S_, .f32⟩
  | 19 => ⟨S1x128x1, .f32⟩
  | 20 => ⟨S1x128x1, .f32⟩
  | 21 => ⟨S4x128x8192, .f32⟩
  | 22 => ⟨S4x128x8192, .f32⟩
  | 23 => ⟨S4x128x8192, .f32⟩
  | 24 => ⟨S_, .f32⟩
  | 25 => ⟨S_, .f32⟩
  | 26 => ⟨S_, .f32⟩
  | 27 => ⟨S_, .f32⟩
  | 28 => ⟨S128, .f32⟩
  | 29 => ⟨S1x128x1, .f32⟩
  | 30 => ⟨S1x128x1, .f32⟩
  | 31 => ⟨S1x128x1, .f32⟩
  | 32 => ⟨S_, .f32⟩
  | 33 => ⟨S_, .i1⟩
  | 34 => ⟨S_, .f32⟩
  | 35 => ⟨S_, .f32⟩
  | 36 => ⟨S1x128x1, .f32⟩
  | 37 => ⟨S1x128x1, .f32⟩
  | 38 => ⟨S1x128x1, .f32⟩
  | 39 => ⟨S4x128x8192, .f32⟩
  | 40 => ⟨S4x128x8192, .f32⟩
  | 41 => ⟨S4x128x8192, .f32⟩
  | 42 => ⟨S4x128x8192, .f32⟩
  | 43 => ⟨S_, .f32⟩
  | 44 => ⟨S1x128x1, .f32⟩
  | 45 => ⟨S1x128x1, .f32⟩
  | 46 => ⟨S1x128x1, .f32⟩
  | 47 => ⟨S4x128x8192, .f32⟩
  | 48 => ⟨S4x128x8192, .f32⟩
  | 49 => ⟨S1x128x1, .f32⟩
  | 50 => ⟨S4x128x8192, .f32⟩
  | 51 => ⟨S4x128x8192, .f32⟩
  | 52 => ⟨S_, .f32⟩
  | 53 => ⟨S4x128x8192, .f32⟩
  | 54 => ⟨S4x128x8192, .f32⟩
  | 55 => ⟨S4x8192x128, .f32⟩
  | 56 => ⟨S4x128x8192, .f32⟩
  | 57 => ⟨S1x128x1, .f32⟩
  | 58 => ⟨S4x128x8192, .f32⟩
  | 59 => ⟨S4x128x8192, .f32⟩
  | 60 => ⟨S_, .f32⟩
  | 61 => ⟨S128, .f32⟩
  | 62 => ⟨S1x128x1, .f32⟩
  | 63 => ⟨S_, .f32⟩
  | 64 => ⟨S1x128x1, .f32⟩
  | 65 => ⟨S1x128x1, .f32⟩
  | 66 => ⟨S_, .i32⟩
  | 67 => ⟨S_, .f32⟩
  | 68 => ⟨S128, .f32⟩
  | 69 => ⟨S1x128x1, .f32⟩
  | 70 => ⟨S_, .f32⟩
  | 71 => ⟨S1x128x1, .f32⟩
  | 72 => ⟨S1x128x1, .f32⟩
  | 73 => ⟨S4x128x8192, .f32⟩
  | 74 => ⟨S4x128x8192, .f32⟩
  | 75 => ⟨S4x128x8192, .f32⟩
  | 76 => ⟨S_, .f32⟩
  | 77 => ⟨S_, .f32⟩
  | 78 => ⟨S_, .f32⟩
  | 79 => ⟨S_, .f32⟩
  | 80 => ⟨S128, .f32⟩
  | 81 => ⟨S1x128x1, .f32⟩
  | 82 => ⟨S1x128x1, .f32⟩
  | 83 => ⟨S1x128x1, .f32⟩
  | 84 => ⟨S_, .f32⟩
  | 85 => ⟨S_, .i1⟩
  | 86 => ⟨S_, .f32⟩
  | 87 => ⟨S_, .f32⟩
  | 88 => ⟨S1x128x1, .f32⟩
  | 89 => ⟨S1x128x1, .f32⟩
  | 90 => ⟨S1x128x1, .f32⟩
  | 91 => ⟨S4x128x8192, .f32⟩
  | 92 => ⟨S4x128x8192, .f32⟩
  | 93 => ⟨S4x128x8192, .f32⟩
  | 94 => ⟨S4x128x8192, .f32⟩
  | 95 => ⟨S_, .f32⟩
  | 96 => ⟨S1x128x1, .f32⟩
  | 97 => ⟨S1x128x1, .f32⟩
  | 98 => ⟨S1x128x1, .f32⟩
  | 99 => ⟨S4x128x8192, .f32⟩
  | 100 => ⟨S4x128x8192, .f32⟩
  | 101 => ⟨S1x128x1, .f32⟩
  | 102 => ⟨S4x128x8192, .f32⟩
  | 103 => ⟨S4x128x8192, .f32⟩
  | 104 => ⟨S4x128x8192, .f32⟩
  | 105 => ⟨S_, .f32⟩
  | 106 => ⟨S4x128x8192, .f32⟩
  | 107 => ⟨S4x128x8192, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call0_v0 : Ref sig .tc := ⟨.hbm, 33, rfl⟩
abbrev main_call0_v1_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_c_11 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_cst_3 : Ref sig .tc := ⟨.hbm, 108, rfl⟩
abbrev main_call2_v13 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_12 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_call3_cst : Ref sig .tc := ⟨.hbm, 128, rfl⟩
abbrev main_call3_v0 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_13 : Ref sig .tc := ⟨.hbm, 136, rfl⟩
abbrev main_v79 : Ref sig .tc := ⟨.hbm, 137, rfl⟩
abbrev main_v80 : Ref sig .tc := ⟨.hbm, 138, rfl⟩
abbrev main_cst_14 : Ref sig .tc := ⟨.hbm, 139, rfl⟩
abbrev main_v81 : Ref sig .tc := ⟨.hbm, 140, rfl⟩
abbrev main_v82 : Ref sig .tc := ⟨.hbm, 141, rfl⟩
abbrev main_c_15 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_cst_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_cst_1 : Ref sig .tc := ⟨.hbm, 153, rfl⟩
abbrev main_call4_v8 : Ref sig .tc := ⟨.hbm, 154, rfl⟩
abbrev main_call4_cst_2 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_v12 : Ref sig .tc := ⟨.hbm, 159, rfl⟩
abbrev main_call4_cst_3 : Ref sig .tc := ⟨.hbm, 160, rfl⟩
abbrev main_call4_v13 : Ref sig .tc := ⟨.hbm, 161, rfl⟩
abbrev main_call4_cst_4 : Ref sig .tc := ⟨.hbm, 162, rfl⟩
abbrev main_call4_call0_v0 : Ref sig .tc := ⟨.hbm, 163, rfl⟩
abbrev main_call4_call0_v1 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_16 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_call5_cst : Ref sig .tc := ⟨.hbm, 180, rfl⟩
abbrev main_call5_v0 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_cst_17 : Ref sig .tc := ⟨.hbm, 188, rfl⟩
abbrev main_v103 : Ref sig .tc := ⟨.hbm, 189, rfl⟩
abbrev main_v104 : Ref sig .tc := ⟨.hbm, 190, rfl⟩
abbrev main_cst_18 : Ref sig .tc := ⟨.hbm, 191, rfl⟩
abbrev main_v105 : Ref sig .tc := ⟨.hbm, 192, rfl⟩
abbrev main_v106 : Ref sig .tc := ⟨.hbm, 193, rfl⟩
abbrev main_c_19 : Ref sig .tc := ⟨.hbm, 194, rfl⟩
abbrev main_call6_cst : Ref sig .tc := ⟨.hbm, 195, rfl⟩
abbrev main_call6_v0 : Ref sig .tc := ⟨.hbm, 196, rfl⟩
abbrev main_call6_v1 : Ref sig .tc := ⟨.hbm, 197, rfl⟩
abbrev main_call6_cst_0 : Ref sig .tc := ⟨.hbm, 198, rfl⟩
abbrev main_call6_v2 : Ref sig .tc := ⟨.hbm, 199, rfl⟩
abbrev main_call6_v3 : Ref sig .tc := ⟨.hbm, 200, rfl⟩
abbrev main_call6_v4 : Ref sig .tc := ⟨.hbm, 201, rfl⟩
abbrev main_call6_v5 : Ref sig .tc := ⟨.hbm, 202, rfl⟩
abbrev main_call6_v6 : Ref sig .tc := ⟨.hbm, 203, rfl⟩
abbrev main_call6_v7 : Ref sig .tc := ⟨.hbm, 204, rfl⟩
abbrev main_call6_cst_1 : Ref sig .tc := ⟨.hbm, 205, rfl⟩
abbrev main_call6_v8 : Ref sig .tc := ⟨.hbm, 206, rfl⟩
abbrev main_call6_cst_2 : Ref sig .tc := ⟨.hbm, 207, rfl⟩
abbrev main_call6_v9 : Ref sig .tc := ⟨.hbm, 208, rfl⟩
abbrev main_call6_v10 : Ref sig .tc := ⟨.hbm, 209, rfl⟩
abbrev main_call6_v11 : Ref sig .tc := ⟨.hbm, 210, rfl⟩
abbrev main_call6_v12 : Ref sig .tc := ⟨.hbm, 211, rfl⟩
abbrev main_call6_cst_3 : Ref sig .tc := ⟨.hbm, 212, rfl⟩
abbrev main_call6_v13 : Ref sig .tc := ⟨.hbm, 213, rfl⟩
abbrev main_call6_cst_4 : Ref sig .tc := ⟨.hbm, 214, rfl⟩
abbrev main_call6_call0_v0 : Ref sig .tc := ⟨.hbm, 215, rfl⟩
abbrev main_call6_call0_v1 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_cst_20 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_call7_cst : Ref sig .tc := ⟨.hbm, 233, rfl⟩
abbrev main_call7_v0 : Ref sig .tc := ⟨.hbm, 234, rfl⟩
abbrev main_v122 : Ref sig .tc := ⟨.hbm, 235, rfl⟩

abbrev nD : Nat := 1
abbrev τ : Topo := Topo.v7x

variable {F : FTy → Type} [FloatOps F]
-- ==== Proof.Common.lean ====
/-
  The program of the fused feature-propagation kernel as the launch theorem sees it: the SparseCore configuration `K`
  (one gather call), the TensorCore pallas_calls' body table `D`, the resource algebra (the launch handshakes' rounds,
  the pipelines' rounds, the local transfers' counters) and the launch side conditions. Every later module opens this one.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionArraysS
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the TensorCore side: the kernels' bodies and the five pipelines. -/
abbrev ΛP : Labels := Pipeline.Sig Λ₀ (Fin 5) fun p => (pcfgs (F := F) p).Adm
/-- The SparseCore configuration of the program. -/
abbrev K : SparseCore.Cfg τ sig (ΛP (F := F)) 1 := sc (F := F)
theorem nSub_zero : (K (F := F)).nSub 0 = 16 := rfl
theorem nCore_zero : (K (F := F)).nCore 0 = 2 := rfl
/-- The body table under the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped where they must be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the SparseCore launch's handshakes. -/
abbrev UH : Type := URounds (GSem nD τ sig) ℕ
/-- The rounds of the pipelines' staging cells. -/
abbrev UP : Type := URounds (GSem nD τ sig) Unit
/-- The whole user algebra: handshakes, pipelines, the tiles' local transfers. -/
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

end Cert.Proof.Run

end
-- ==== Proof.Region.lean ====
/-
  A TensorCore region of @main beside the SparseCore call: its proof data from an entry valuation, and its step over the held buffers.
-/
module

public import proofs.«01_k».proof.Proof.Common

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type}

local notation "𝕄" => MT nD τ sig (HIx 1) (Elt F) ℕ UU ℕ

/-- The contents of every buffer of a device's TensorCore. -/
abbrev Vl (F : FTy → Type) : Type := Valuation τ sig (Elt F)

abbrev adm : (p : Fin 5) → (pcfgs (F := F) p).Adm := fun p => (cfgs p).toPCfg_adm

/-- The waits a thread may have recorded before its call number `n`. -/
def recd (c : Dev nD) (n : ℕ) : Set (SemLoc sig × HIx 1) := {x | (K (F := F)).lev (SparseCore.T c, x.1) x.2 ≤ 8 * (inferInstance : SparseCore.Cfg.Blocks 1 1).fst n}

/-- The proof data of a region whose body's invariant is the scoped buffers alone: the arrays at the valuation `W`, the staging
    contents after the body `after`. -/
def mkDat (cfg : Pipeline.Cfg sig Λ₀) (c : Dev nD) (n : ℕ) (W : Vl F)
    (after : (w : Fin cfg.W) → Fin cfg.N → (cfg.win w).block.Idx → Elt F (cfg.win w).elt) : Dat τ (Elt F) (HIx 1) ℕ UU ℕ cfg c where
  A w := W (Proc.devRef .tc (arrRef cfg.spec w))
  after := after
  Φ _ := scopedRest cfg.spec c
  q _ := fullShare
  owed _ := (K (F := F)).Otc c n
  recorded _ := recd (F := F) c n

variable (pdats : (p : Fin 5) → (c : Dev nD) → Dat τ (Elt F) (HIx 1) ℕ UU ℕ (pin (pcfgs (F := F)) adm p) c)

/-- What a TensorCore's state before call `n` holds of its debts. -/
abbrev owed (c : Dev nD) (n : ℕ) : sProp 𝕄 :=
  iprop(∃ Wd, ⌜(K (F := F)).WBelow (SparseCore.T c) Wd (8 * (inferInstance : SparseCore.Cfg.Blocks 1 1).fst n)⌝ ∗ owes (SparseCore.T c) ((K (F := F)).Otc c n) Wd)

variable [FloatOps F]

/-- The region of pipeline `p`, entered with every unscoped buffer at `W c` before call `n`. -/
def seg (p : Fin 5) (n : ℕ) (kit : LaunchFacts (nD := nD) (τ := τ) cfgs p) (W : Dev nD → Vl F)
    (after : (c : Dev nD) → (w : Fin (cfgs p).W) → Fin (cfgs p).N → ((cfgs p).win w).block.Idx → Elt F ((cfgs p).win w).elt)
    (hp : ∀ c, pdats p c = mkDat (cfgs p) c n (W c) (after c))
    (hbody : ∀ c, BodyObligation (mkDat (cfgs p) c n (W c) (after c)) (defs₀ (F := F)) 𝒱₀ none Set.univ) :
    RegionSeg (pcfgs (F := F)) adm pdats none defs₀ 𝒱₀ (K (F := F)).L (K (F := F)).lev p where
  win := kit.win.to₀
  block_pos := kit.block_pos
  stage_whole := kit.stage_whole
  K := PEmpty
  osem k := k.elim
  ho := OwnSemFacts.none _
  hbody c := by rw [hp]; exact (hbody c).loose
  hwaits c := cellsWaits_of_cut (pin (pcfgs (F := F)) adm) pdats none p c 0 ((K (F := F)).Otc c n) (fun t => by rw [hp]; rfl)
    (fun _ _ => Finset.mem_univ _) (fun _ _ => le_rfl)
    (fun g i h => ⟨Finset.mem_univ _, lt_of_lt_of_le (Nat.succ_pos _) ((SparseCore.Cfg.lev_of_Otc_pos h))⟩)
  pre c := iprop(StableHlo.held (c.tc : Thread nD τ) (ucRefs τ sig) (W c) ∗ owed c n)
  post c := iprop(StableHlo.held (c.tc : Thread nD τ) (ucRefs τ sig) (afterRegion (pdats p c) (W c)) ∗ owed c n)
  X _ := BI.emp
  Y _ := BI.emp
  Z c := StableHlo.held (c.tc : Thread nD τ) (ucRefs τ sig \ arrRefs (cfgs p).spec) (W c)
  hentry c := by
    rw [ownSems0_none, prefHeld_of_none _ rfl,
      arrays_held (pcfgs (F := F)) adm pdats p kit.toP c (by rw [hp]; exact Dat.share_full _ fun _ => rfl) ((pdats p c).arrAt · 0) (W c) (by rw [hp]; exact fun _ => rfl)]
    rw [StableHlo.held_sub_split (c.tc : Thread nD τ) (arrRefs_sub_ucRefs (cfgs p).spec kit.win.arr_unscoped) (W c)]
    iintro ⟨⟨⟨Ha, Hr⟩, HO⟩, -, -⟩
    imodintro
    iframe Ha
    isplitr; · iempintro
    isplitl [HO]
    · unfold Dat.owesAt owesWithin Dat.bound
      rw [hp]
      icases HO with ⟨%Wd, %hW, HO⟩; iexists Wd; isplitr; · ipureintro; exact fun x hx => Or.inl (hW x hx)
      iexact HO
    isplitr; · iempintro
    iexact Hr
  hin c := by
    have e : (pdats p c).Φ 0 = scopedRest (cfgs p).spec c := by rw [hp]; rfl
    rw [e]
    iintro ⟨-, -, Hr⟩
    iexact Hr
  hout c := by
    have e : (pdats p c).Φ (Fin.last _) = scopedRest (cfgs p).spec c := by rw [hp]; rfl
    rw [ownSems0_none, e]
    iintro Hr
    isplitr; · iempintro
    isplitr; · iempintro
    iexact Hr
  hexit c := by
    rw [arrays_held (pcfgs (F := F)) adm pdats p kit.toP c (by rw [hp]; exact Dat.share_full _ fun _ => rfl) ((pdats p c).arrAt · (pin (pcfgs (F := F)) adm p).N)
      (afterRegion (pdats p c) (W c)) (fun w => (afterRegion_arr (pdats p c) (W c) kit.win.arr_inj w).symm)]
    rw [StableHlo.held_sub_split (c.tc : Thread nD τ) (arrRefs_sub_ucRefs (cfgs p).spec kit.win.arr_unscoped) (afterRegion (pdats p c) (W c)),
      StableHlo.held_congr (c.tc : Thread nD τ) (S := ucRefs τ sig \ arrRefs (cfgs p).spec) (V := afterRegion (pdats p c) (W c)) (V' := W c) (afterRegion_off (pdats p c) (W c) _)]
    iintro ⟨Ha, HO, -, Hr⟩
    imodintro
    iframe Ha Hr
    unfold Dat.owesAt owesWithin Dat.bound
    rw [hp]
    icases HO with ⟨%Wd, %hW, HO⟩; iexists Wd; isplitr
    · ipureintro; intro x hx
      rcases hW hx with h | ⟨w, s, h⟩
      · exact h
      · rw [h]; exact Nat.zero_le _
    · iexact HO

/-- The region's call in @main: from the held buffers at `W d` to the held buffers at what the region leaves. -/
theorem region_wp (p : Fin 5) (n : ℕ) (kit : LaunchFacts (nD := nD) (τ := τ) cfgs p) (W : Dev nD → Vl F)
    (after : (c : Dev nD) → (w : Fin (cfgs p).W) → Fin (cfgs p).N → ((cfgs p).win w).block.Idx → Elt F ((cfgs p).win w).elt)
    (hp : ∀ c, pdats p c = mkDat (cfgs p) c n (W c) (after c))
    (hbody : ∀ c, BodyObligation (mkDat (cfgs p) c n (W c) (after c)) (defs₀ (F := F)) 𝒱₀ none Set.univ)
    (d : Dev nD) (Q : PUnit → sProp 𝕄) :
    iprop(levAts (K (F := F)).L (K (F := F)).lev ∗ boundary (SparseCore.T d) ∗ StableHlo.held (SparseCore.T d) (ucRefs τ sig) (W d) ∗ owed d n
        ∗ cellsGhost (pin (pcfgs (F := F)) adm) EP p d ∗ toksInit (pin (pcfgs (F := F)) adm) EP p d
        ∗ (boundary (SparseCore.T d) ∗ StableHlo.held (SparseCore.T d) (ucRefs τ sig) (afterRegion (mkDat (cfgs p) d n (W d) (after d)) (W d)) ∗ owed d n
            -∗ Q ⟨⟩))
      ⊢ wp frame (wpE ((K (F := F)).defs (D (F := F))) 𝒱 (SparseCore.T d) none) Set.univ
          (Prog.lift (.customCall (SparseCore.inner (entry p)) ())) Q := by
  refine BIBase.Entails.trans ?_ ((K (F := F)).wp_liftProg (D (F := F)) 𝒱 (SparseCore.T d) Set.univ none (.op (.customCall (entry p) ()) fun u => .ret u) Q)
  refine BIBase.Entails.trans ?_ (RegionSeg.wp (pcfgs (F := F)) adm pdats none ((LaunchFacts.toP kit).cellOf_inj adm) EP defs₀ 𝒱₀ _ _ (seg pdats p n kit W after hp hbody) d none (fun _ h => nomatch h) _ _)
  iintro ⟨Hl, Hb, Hh, HO, Hc, Ht, Hk⟩
  isplitl [Hk]
  · show _ ⊢ iprop(boundary (SparseCore.T d) ∗ (StableHlo.held (SparseCore.T d) (ucRefs τ sig) (afterRegion (pdats p d) (W d)) ∗ owed d n) -∗ _)
    iintro Hk ⟨Hb, Hh, HO⟩
    rw [wp_ret]
    imodintro
    iapply Hk
    rw [← hp]
    iframe Hb Hh HO
  iframe Hb Hl Hc Ht
  iapply (show iprop(StableHlo.held (SparseCore.T d) (ucRefs τ sig) (W d) ∗ owed d n) ⊢ (seg pdats p n kit W after hp hbody).pre d from BIBase.Entails.rfl)
  iframe Hh HO

end Cert.Proof.Run

end
-- ==== Proof.Bodies.lean ====
/-
  The five TensorCore kernels, run once each from their windows' staging buffers.
-/
module

public import proofs.«01_k».proof.Proof.Region
public import proofs.«01_k».proof.Proof.Gen.KernelIdeal.Skeleton
public import Idealize.ShloMosaic.Lib.Tactic
public import Idealize.ShloMosaic.Lib.Pipeline.Value

@[expose] public section

noncomputable section

namespace Cert.Proof.Run

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned at `X` is its buffer held at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  obtain ⟨b, hsp, hsh, he, h⟩ := h
  subst hsp hsh he
  cases h
  exact owns_whole_eq _ _ _ _

theorem pt_owns (c : Dev nD) {sp : Space} {S : Shape} {e : EltTy} (M : Memref sig .tc sp S e) (h : M.IsWhole) (X : S.Idx → Elt F e) (f : Bf (F := F) c M)
    (hf : M.view.read (Elt F) f = X) : pt c M f ⊢ (owns (c : Thread nD τ) M fullShare X : sProp 𝕄) := by
  rw [owns_pt c M h]
  iintro H
  iexists f
  isplitr; · ipureintro; exact hf
  iexact H

variable [∀ e, Nonempty (Elt F e)]

/-- What a store of the whole view leaves: its payload. -/
theorem read_whole_store {sp : Space} {S : Shape} {e : EltTy} (v : View sig .tc sp S e) (f : v.ty.Contents (Elt F)) {off : Fin S.rank → ℕ} (ho : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero ho inb y⟩), View.canon_cons_unit_zero ho]

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- The three row numbers in the flat table that the first kernel writes for a block of points, from the block and its batch's table. -/
def knnIdx (b : BitVec 32) (x : Vec F S1x4096x3 .f32) (y : Vec F S1x2048x3 .f32) : Vec F S1x3x4096 .i32 :=
  k0_pay11 b (iota .tc S4096x2048 32 [1] iota_S4096x2048_d1_w32) (k0_pay3 x y) (k0_pay4 x y) (k0_pay7 x y)

/-- The three weights it writes. -/
def knnWt (x : Vec F S1x4096x3 .f32) (y : Vec F S1x2048x3 .f32) : Vec F S1x3x4096 .f32 :=
  k0_pay12 (iota .tc S4096x2048 32 [1] iota_S4096x2048_d1_w32) (k0_pay4 x y) (k0_pay5 x y) (k0_pay6 x y) (k0_pay7 x y)

theorem knn_run (c : Dev nD) (i : grid0.Coords) (M2 : Memref sig .tc .vmem S1x4096x3 .f32) (h2 : M2.IsWhole) (M3 : Memref sig .tc .vmem S1x2048x3 .f32) (h3 : M3.IsWhole)
    (M4 : Memref sig .tc .vmem S1x3x4096 .i32) (h4 : M4.IsWhole) (M5 : Memref sig .tc .vmem S1x3x4096 .f32) (h5 : M5.IsWhole)
    (x : Vec F S1x4096x3 .f32) (y : Vec F S1x2048x3 .f32) (z : Vec F S1x3x4096 .i32) (u : Vec F S1x3x4096 .f32) (E : Set ℕ) (Q : PUnit → sProp 𝕄) :
    iprop(owns c M2 fullShare x ∗ owns c M3 fullShare y ∗ owns c M4 fullShare z ∗ owns c M5 fullShare u
        ∗ (iprop(owns c M2 fullShare x ∗ owns c M3 fullShare y ∗ owns c M4 fullShare (knnIdx (BitVec.ofNat 32 (i 0).val) x y) ∗ owns c M5 fullShare (knnWt x y)) -∗ Q ⟨⟩))
      ⊢ wp frame (wpE (defs₀ (F := F)) Variants.none c none) E (cc0__knn_body i M2 h2 M3 h3 M4 h4 M5 h5) Q := by
  rw [cc0__knn_body_eq_skeleton]
  unfold cc0__knn_body_skel
  rw [k0_part1_eq_skeleton]
  simp only [k0_part2_eq_skeleton]
  unfold k0_part1_skel k0_part2_skel
  rw [owns_pt c M2 h2, owns_pt c M3 h3, owns_pt c M4 h4 z, owns_pt c M5 h5 u]
  iintro ⟨⟨%f2, %e2, H2⟩, ⟨%f3, %e3, H3⟩, ⟨%f4, -, H4⟩, ⟨%f5, -, H5⟩, Hk⟩
  sl_exec!
  sl_step
  iapply Hk
  isplitl [H2]; · iexists f2; isplitr; · ipureintro; exact e2
                  iexact H2
  isplitl [H3]; · iexists f3; isplitr; · ipureintro; exact e3
                  iexact H3
  sl_unfold_words
  isplitl [H4]
  · iapply (pt_owns c M4 h4 _ _ ?_) $$ H4
    refine (read_whole_store (S := S1x3x4096) _ _ hz3 _ _ _).trans ?_
    simp only [View.readAt_eq_ld, View.ld_unit_zero (S := S1x4096x3) hz3, View.ld_unit_zero (S := S1x2048x3) hz3, e2, e3]
    rfl
  · iapply (pt_owns c M5 h5 _ _ ?_) $$ H5
    refine (read_whole_store (S := S1x3x4096) _ _ hz3 _ _ _).trans ?_
    simp only [View.readAt_eq_ld, View.ld_unit_zero (S := S1x4096x3) hz3, View.ld_unit_zero (S := S1x2048x3) hz3, e2, e3]
    rfl

/-- The test for the first point of the grid, as the kernels spell it. -/
abbrev firstBit (a b : BitVec 32) : BitVec 1 :=
  Scalar.cmpi .ne (Scalar.extui (Scalar.andi (Scalar.cmpi .eq a 0#32) (Scalar.cmpi .eq b 0#32)) : BitVec 32) 0#32

/-- The running column sums and sums of squares after a block `y`, from `s` before it; at the first point they start at zero. -/
def statUpd (b : BitVec 1) (y : Vec F S128x4096 .f32) (s : Vec F S2x128 .f32) : Vec F S2x128 .f32 :=
  k2_pay3 y (if b = 1#1 then k2_pay2 (F := F) else s)

theorem fuse_run (c : Dev nD) (i : grid2.Coords) (M2 : Memref sig .tc .vmem S1x3x4096x128 .f32) (h2 : M2.IsWhole) (M3 : Memref sig .tc .vmem S1x3x4096 .f32) (h3 : M3.IsWhole)
    (M4 : Memref sig .tc .vmem S1x64x4096 .f32) (h4 : M4.IsWhole) (M5 : Memref sig .tc .vmem S128x64 .f32) (h5 : M5.IsWhole)
    (M6 : Memref sig .tc .vmem S128x128 .f32) (h6 : M6.IsWhole) (M7 : Memref sig .tc .vmem S128x1 .f32) (h7 : M7.IsWhole)
    (M8 : Memref sig .tc .vmem S1x128x4096 .f32) (h8 : M8.IsWhole) (M9 : Memref sig .tc .vmem S2x128 .f32) (h9 : M9.IsWhole)
    (g : Vec F S1x3x4096x128 .f32) (w : Vec F S1x3x4096 .f32) (p : Vec F S1x64x4096 .f32) (a : Vec F S128x64 .f32) (b : Vec F S128x128 .f32) (o : Vec F S128x1 .f32)
    (z : Vec F S1x128x4096 .f32) (s : Vec F S2x128 .f32) (E : Set ℕ) (Q : PUnit → sProp 𝕄) :
    iprop(owns c M2 fullShare g ∗ owns c M3 fullShare w ∗ owns c M4 fullShare p ∗ owns c M5 fullShare a ∗ owns c M6 fullShare b ∗ owns c M7 fullShare o
        ∗ owns c M8 fullShare z ∗ owns c M9 fullShare s
        ∗ (iprop(owns c M2 fullShare g ∗ owns c M3 fullShare w ∗ owns c M4 fullShare p ∗ owns c M5 fullShare a ∗ owns c M6 fullShare b ∗ owns c M7 fullShare o
            ∗ owns c M8 fullShare (k2_pay1 (k2_pay4 g w a p b o))
            ∗ owns c M9 fullShare (statUpd (firstBit (BitVec.ofNat 32 (i 0).val) (BitVec.ofNat 32 (i 1).val)) (k2_pay4 g w a p b o) s)) -∗ Q ⟨⟩))
      ⊢ wp frame (wpE (defs₀ (F := F)) Variants.none c none) E (cc2__fuse_body i M2 h2 M3 h3 M4 h4 M5 h5 M6 h6 M7 h7 M8 h8 M9 h9) Q := by
  rw [cc2__fuse_body_eq_skeleton]
  unfold cc2__fuse_body_skel
  rw [k2_part1_eq_skeleton]
  unfold k2_part1_skel
  rw [owns_pt c M2 h2, owns_pt c M3 h3, owns_pt c M4 h4, owns_pt c M5 h5, owns_pt c M6 h6, owns_pt c M7 h7, owns_pt c M8 h8 z, owns_pt c M9 h9 s]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, -, H8⟩, ⟨%f9, %e9, H9⟩, Hk⟩
  by_cases hb : firstBit (BitVec.ofNat 32 (i 0).val) (BitVec.ofNat 32 (i 1).val) = 1#1
  all_goals
    sl_exec!
    sl_step
    iapply Hk
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    sl_unfold_words
    isplitl [H8]
    · iapply (pt_owns c M8 h8 _ _ ?_) $$ H8
      refine (read_whole_store (S := S1x128x4096) _ _ hz3 _ _ _).trans ?_
      simp only [View.readAt_eq_ld, View.ld_unit_zero (S := S1x3x4096x128) hz4, View.ld_unit_zero (S := S1x3x4096) hz3, View.ld_unit_zero (S := S1x64x4096) hz3,
        View.ld_unit_zero (S := S128x64) hz2, View.ld_unit_zero (S := S128x128) hz2, View.ld_unit_zero (S := S128x1) hz2, e2, e3, e4, e5, e6, e7]
    · iapply (pt_owns c M9 h9 _ _ ?_) $$ H9
      refine (read_whole_store (S := S2x128) _ _ hz2 _ _ _).trans ?_
      unfold statUpd
      simp only [View.readAt_eq_ld, View.ld_unit_zero (S := S1x3x4096x128) hz4, View.ld_unit_zero (S := S1x3x4096) hz3, View.ld_unit_zero (S := S1x64x4096) hz3,
        View.ld_unit_zero (S := S128x64) hz2, View.ld_unit_zero (S := S128x128) hz2, View.ld_unit_zero (S := S128x1) hz2, View.ld_unit_zero (S := S2x128) hz2,
        View.readCov_unit_zero (S := S2x128) _ hz2, e2, e3, e4, e5, e6, e7, e9, hb, if_true, if_false]

theorem mlp_run (c : Dev nD) (i : grid3.Coords) (M2 : Memref sig .tc .vmem S1x128x4096 .f32) (h2 : M2.IsWhole) (M3 : Memref sig .tc .vmem S128x1 .f32) (h3 : M3.IsWhole)
    (M4 : Memref sig .tc .vmem S128x1 .f32) (h4 : M4.IsWhole) (M5 : Memref sig .tc .vmem S128x128 .f32) (h5 : M5.IsWhole)
    (M6 : Memref sig .tc .vmem S128x1 .f32) (h6 : M6.IsWhole)
    (M7 : Memref sig .tc .vmem S1x128x4096 .f32) (h7 : M7.IsWhole) (M8 : Memref sig .tc .vmem S2x128 .f32) (h8 : M8.IsWhole)
    (x : Vec F S1x128x4096 .f32) (a : Vec F S128x1 .f32) (b : Vec F S128x1 .f32) (w : Vec F S128x128 .f32) (o : Vec F S128x1 .f32)
    (z : Vec F S1x128x4096 .f32) (s : Vec F S2x128 .f32) (E : Set ℕ) (Q : PUnit → sProp 𝕄) :
    iprop(owns c M2 fullShare x ∗ owns c M3 fullShare a ∗ owns c M4 fullShare b ∗ owns c M5 fullShare w ∗ owns c M6 fullShare o
        ∗ owns c M7 fullShare z ∗ owns c M8 fullShare s
        ∗ (iprop(owns c M2 fullShare x ∗ owns c M3 fullShare a ∗ owns c M4 fullShare b ∗ owns c M5 fullShare w ∗ owns c M6 fullShare o
            ∗ owns c M7 fullShare (k2_pay1 (k3_pay2 x a b w o))
            ∗ owns c M8 fullShare (statUpd (firstBit (BitVec.ofNat 32 (i 0).val) (BitVec.ofNat 32 (i 1).val)) (k3_pay2 x a b w o) s)) -∗ Q ⟨⟩))
      ⊢ wp frame (wpE (defs₀ (F := F)) Variants.none c none) E (cc3__mlp_body i M2 h2 M3 h3 M4 h4 M5 h5 M6 h6 M7 h7 M8 h8) Q := by
  rw [cc3__mlp_body_eq_skeleton]
  unfold cc3__mlp_body_skel
  rw [k3_part1_eq_skeleton]
  unfold k3_part1_skel
  rw [owns_pt c M2 h2, owns_pt c M3 h3, owns_pt c M4 h4, owns_pt c M5 h5, owns_pt c M6 h6, owns_pt c M7 h7 z, owns_pt c M8 h8 s]
  iintro ⟨⟨%f2, %e2, H2⟩, ⟨%f3, %e3, H3⟩, ⟨%f4, %e4, H4⟩, ⟨%f5, %e5, H5⟩, ⟨%f6, %e6, H6⟩, ⟨%f7, -, H7⟩, ⟨%f8, %e8, H8⟩, Hk⟩
  by_cases hb : firstBit (BitVec.ofNat 32 (i 0).val) (BitVec.ofNat 32 (i 1).val) = 1#1
  all_goals
    sl_exec!
    sl_step
    iapply Hk
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    sl_unfold_words
    isplitl [H7]
    · iapply (pt_owns c M7 h7 _ _ ?_) $$ H7
      refine (read_whole_store (S := S1x128x4096) _ _ hz3 _ _ _).trans ?_
      simp only [View.readAt_eq_ld, View.ld_unit_zero (S := S1x128x4096) hz3, View.ld_unit_zero (S := S128x128) hz2, View.ld_unit_zero (S := S128x1) hz2, e2, e3, e4, e5, e6]
      rfl
    · iapply (pt_owns c M8 h8 _ _ ?_) $$ H8
      refine (read_whole_store (S := S2x128) _ _ hz2 _ _ _).trans ?_
      unfold statUpd
      simp only [View.readAt_eq_ld, View.ld_unit_zero (S := S1x128x4096) hz3, View.ld_unit_zero (S := S128x128) hz2, View.ld_unit_zero (S := S128x1) hz2,
        View.ld_unit_zero (S := S2x128) hz2, View.readCov_unit_zero (S := S2x128) _ hz2, e2, e3, e4, e5, e6, e8, hb, if_true, if_false]
      rfl

/-- The second layer kernel is the first one's text. -/
theorem mlp_again : cc4__mlp_body (F := F) = cc3__mlp_body (F := F) := rfl

theorem resid_run (c : Dev nD) (i : grid5.Coords) (M2 : Memref sig .tc .vmem S1x128x4096 .f32) (h2 : M2.IsWhole) (M3 : Memref sig .tc .vmem S1x128x4096 .f32) (h3 : M3.IsWhole)
    (M4 : Memref sig .tc .vmem S128x1 .f32) (h4 : M4.IsWhole) (M5 : Memref sig .tc .vmem S128x1 .f32) (h5 : M5.IsWhole)
    (M6 : Memref sig .tc .vmem S128x1 .f32) (h6 : M6.IsWhole) (M7 : Memref sig .tc .vmem S128x1 .f32) (h7 : M7.IsWhole) (M8 : Memref sig .tc .vmem S1x128x4096 .f32) (h8 : M8.IsWhole)
    (x : Vec F S1x128x4096 .f32) (y : Vec F S1x128x4096 .f32) (a : Vec F S128x1 .f32) (b : Vec F S128x1 .f32) (a' : Vec F S128x1 .f32) (b' : Vec F S128x1 .f32)
    (z : Vec F S1x128x4096 .f32) (E : Set ℕ) (Q : PUnit → sProp 𝕄) :
    iprop(owns c M2 fullShare x ∗ owns c M3 fullShare y ∗ owns c M4 fullShare a ∗ owns c M5 fullShare b ∗ owns c M6 fullShare a' ∗ owns c M7 fullShare b'
        ∗ owns c M8 fullShare z
        ∗ (iprop(owns c M2 fullShare x ∗ owns c M3 fullShare y ∗ owns c M4 fullShare a ∗ owns c M5 fullShare b ∗ owns c M6 fullShare a' ∗ owns c M7 fullShare b'
            ∗ owns c M8 fullShare (k5_pay1 y a' b' x a b)) -∗ Q ⟨⟩))
      ⊢ wp frame (wpE (defs₀ (F := F)) Variants.none c none) E (cc5__resid_body i M2 h2 M3 h3 M4 h4 M5 h5 M6 h6 M7 h7 M8 h8) Q := by
  rw [cc5__resid_body_eq_skeleton]
  unfold cc5__resid_body_skel
  rw [owns_pt c M2 h2, owns_pt c M3 h3, owns_pt c M4 h4, owns_pt c M5 h5, owns_pt c M6 h6, owns_pt c M7 h7, owns_pt c M8 h8 z]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, -, H8⟩, Hk⟩
  sl_exec!
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  sl_unfold_words
  iapply (pt_owns c M8 h8 _ _ ?_) $$ H8
  refine (read_whole_store (S := S1x128x4096) _ _ hz3 _ _ _).trans ?_
  simp only [View.readAt_eq_ld, View.ld_unit_zero (S := S1x128x4096) hz3, View.ld_unit_zero (S := S128x1) hz2, e2, e3, e4, e5, e6, e7]

end Cert.Proof.Run
-- ==== Proof.Obligs.lean ====
/-
  The five TensorCore regions: what each body leaves in its staging buffers at each point of its grid, and the body's obligation.
-/
module

public import proofs.«01_k».proof.Proof.Bodies
public import proofs.«01_k».proof.Proof.Gen.KernelIdeal.Points

@[expose] public section

noncomputable section

namespace Cert.Proof.Run

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [∀ e, Nonempty (Elt F e)]

local notation "𝕄" => MT nD τ sig (HIx 1) (Elt F) ℕ UU ℕ

/-- Window `w`'s block at point `t` of a pipeline entered with its arrays at `W`. -/
abbrev stg (cfg : Pipeline.Cfg sig Λ₀) (W : Vl F) (w : Fin cfg.W) (t : Fin cfg.N) : ((cfg.win w).xblock (cfg.grid.coords t)).Idx → Elt F (cfg.win w).elt :=
  ((cfg.win w).blk t).view.read (Elt F) (W (Proc.devRef .tc (arrRef cfg.spec w)))

/-! ## The nearest rows -/

def after0 (W : Vl F) (w : Fin cfg0.W) (t : Fin cfg0.N) : (cfg0.win w).block.Idx → Elt F (cfg0.win w).elt :=
  match w with
  | ⟨0, _⟩ => stg cfg0 W 0 t
  | ⟨1, _⟩ => stg cfg0 W 1 t
  | ⟨2, _⟩ => knnIdx (BitVec.ofNat 32 (cfg0.grid.coords t 0).val) (stg cfg0 W 0 t) (stg cfg0 W 1 t)
  | ⟨3, _⟩ => knnWt (stg cfg0 W 0 t) (stg cfg0 W 1 t)

theorem oblig0 (c : Dev nD) (n : ℕ) (W : Vl F) : BodyObligation (mkDat cfg0 c n W (after0 W)) (defs₀ (F := F)) 𝒱₀ none Set.univ := fun t => by
  rw [bigSep_W0, bigSep_W0]
  rw [show (mkDat cfg0 c n W (after0 W)).Φ t.castSucc = (mkDat cfg0 c n W (after0 W)).Φ t.succ from rfl,
    show (mkDat cfg0 c n W (after0 W)).owesAt none t.succ = (mkDat cfg0 c n W (after0 W)).owesAt none t.castSucc from rfl]
  iintro ⟨HΦ, Howes, ⟨%d0, H0⟩, ⟨%d1, H1⟩, ⟨%d2, H2⟩, ⟨%d3, H3⟩⟩
  rw [Dat.before_in_eq_fetched (mkDat cfg0 c n W (after0 W)) 0 rfl (fun _ => rfl) (fun _ _ _ => rfl) (fun _ => rfl) t d0,
    Dat.before_in_eq_fetched (mkDat cfg0 c n W (after0 W)) 1 rfl (fun _ => rfl) (fun _ _ _ => rfl) (fun _ => rfl) t d1]
  iapply (knn_run c (cfg0.grid.coords t) _ _ _ _ _ _ _ _ (stg cfg0 W 0 t) (stg cfg0 W 1 t) _ _ Set.univ _)
  isplitl [H0]; · iexact H0
  isplitl [H1]; · iexact H1
  isplitl [H2]; · iexact H2
  isplitl [H3]; · iexact H3
  iintro ⟨H0, H1, H2, H3⟩
  iframe HΦ Howes
  isplitl [H0]; · iexact H0
  isplitl [H1]; · iexact H1
  isplitl [H2]; · iexact H2
  iexact H3

/-! ## Running statistics -/

/-- The running statistics after point `n` over the blocks `y`: zero, then one block after another. -/
def chain {N : ℕ} (y : Fin N → Vec F S128x4096 .f32) : (n : ℕ) → n < N → Vec F S2x128 .f32
  | 0, h => k2_pay3 (y ⟨0, h⟩) (k2_pay2 (F := F))
  | n + 1, h => k2_pay3 (y ⟨n + 1, h⟩) (chain y n (Nat.lt_of_succ_lt h))

/-- One step of them: from anything at the first point, from the point before elsewhere. -/
theorem chain_step {N : ℕ} (y : Fin N → Vec F S128x4096 .f32) (t : Fin N) (b : BitVec 1) (hb : b = 1#1 ↔ t.val = 0) (s : Vec F S2x128 .f32)
    (hs : ∀ h : t.val ≠ 0, s = chain y (t.val - 1) (Nat.lt_of_le_of_lt (Nat.sub_le _ _) t.isLt)) : statUpd b (y t) s = chain y t.val t.isLt := by
  obtain ⟨n, hn⟩ := t
  unfold statUpd
  cases n with
  | zero => rw [if_pos (hb.mpr rfl)]; rfl
  | succ n => rw [if_neg (fun h => Nat.succ_ne_zero n (hb.mp h)), hs (Nat.succ_ne_zero n)]; rfl

/-! ## Fusing and the first layer -/

/-- The first layer's block at a point. -/
def lay2 (W : Vl F) (t : Fin cfg2.N) : Vec F S128x4096 .f32 :=
  k2_pay4 (stg cfg2 W 0 t) (stg cfg2 W 1 t) (stg cfg2 W 3 t) (stg cfg2 W 2 t) (stg cfg2 W 4 t) (stg cfg2 W 5 t)

def after2 (W : Vl F) (w : Fin cfg2.W) (t : Fin cfg2.N) : (cfg2.win w).block.Idx → Elt F (cfg2.win w).elt :=
  match w with
  | ⟨0, _⟩ => stg cfg2 W 0 t
  | ⟨1, _⟩ => stg cfg2 W 1 t
  | ⟨2, _⟩ => stg cfg2 W 2 t
  | ⟨3, _⟩ => stg cfg2 W 3 t
  | ⟨4, _⟩ => stg cfg2 W 4 t
  | ⟨5, _⟩ => stg cfg2 W 5 t
  | ⟨6, _⟩ => k2_pay1 (lay2 W t)
  | ⟨7, _⟩ => chain (lay2 W) t.val t.isLt

theorem first2 (t : Fin cfg2.N) : firstBit (BitVec.ofNat 32 (cfg2.grid.coords t 0).val) (BitVec.ofNat 32 (cfg2.grid.coords t 1).val) = 1#1 ↔ t.val = 0 := by
  rcases fin_N2 t with h | h | h | h | h | h | h | h <;> subst h <;> decide

theorem acc2 (c : Dev nD) (n : ℕ) (W : Vl F) (t : Fin cfg2.N) (d) (h : t.val ≠ 0) :
    (mkDat cfg2 c n W (after2 W)).before 7 t d = chain (lay2 W) (t.val - 1) (Nat.lt_of_le_of_lt (Nat.sub_le _ _) t.isLt) := by
  refine (Dat.before_out_kept _ 7 rfl t h ?_ (fun _ => rfl) (fun _ _ => rfl) d).trans rfl
  have := flush2_7 ⟨t.val - 1, Nat.lt_of_le_of_lt (Nat.sub_le _ _) t.isLt⟩
  rw [Bool.eq_false_iff]
  intro hf
  have h8 := t.isLt
  have hN : cfg2.N = 8 := N_2
  have h7 := this.mp hf
  simp only at h7
  omega

theorem oblig2 (c : Dev nD) (n : ℕ) (W : Vl F) : BodyObligation (mkDat cfg2 c n W (after2 W)) (defs₀ (F := F)) 𝒱₀ none Set.univ := fun t => by
  rw [bigSep_W2, bigSep_W2]
  rw [show (mkDat cfg2 c n W (after2 W)).Φ t.castSucc = (mkDat cfg2 c n W (after2 W)).Φ t.succ from rfl,
    show (mkDat cfg2 c n W (after2 W)).owesAt none t.succ = (mkDat cfg2 c n W (after2 W)).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [Dat.before_in_eq_fetched (mkDat cfg2 c n W (after2 W)) 0 rfl (fun _ => rfl) (fun _ _ _ => rfl) (fun _ => rfl) t d0,
    Dat.before_in_eq_fetched (mkDat cfg2 c n W (after2 W)) 1 rfl (fun _ => rfl) (fun _ _ _ => rfl) (fun _ => rfl) t d1,
    Dat.before_in_eq_fetched (mkDat cfg2 c n W (after2 W)) 2 rfl (fun _ => rfl) (fun _ _ _ => rfl) (fun _ => rfl) t d2,
    Dat.before_in_eq_fetched (mkDat cfg2 c n W (after2 W)) 3 rfl (fun _ => rfl) (fun _ _ _ => rfl) (fun _ => rfl) t d3,
    Dat.before_in_eq_fetched (mkDat cfg2 c n W (after2 W)) 4 rfl (fun _ => rfl) (fun _ _ _ => rfl) (fun _ => rfl) t d4,
    Dat.before_in_eq_fetched (mkDat cfg2 c n W (after2 W)) 5 rfl (fun _ => rfl) (fun _ _ _ => rfl) (fun _ => rfl) t d5]
  have hs := chain_step (lay2 W) t _ (first2 t) ((mkDat cfg2 c n W (after2 W)).before 7 t d7) (acc2 c n W t d7)
  iapply (fuse_run c (cfg2.grid.coords t) _ _ _ _ _ _ _ _ _ _ _ _ _ _ _ _ (stg cfg2 W 0 t) (stg cfg2 W 1 t) (stg cfg2 W 2 t) (stg cfg2 W 3 t) (stg cfg2 W 4 t) (stg cfg2 W 5 t) _ ((mkDat cfg2 c n W (after2 W)).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [show k2_pay4 (stg cfg2 W 0 t) (stg cfg2 W 1 t) (stg cfg2 W 3 t) (stg cfg2 W 2 t) (stg cfg2 W 4 t) (stg cfg2 W 5 t) = lay2 W t from rfl, hs]
  iintro ⟨H0, H1, H2, H3, H4, H5, H6, H7⟩
  iframe HΦ Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The second layer -/

/-- The layer's block at a point. -/
def lay3 (W : Vl F) (t : Fin cfg3.N) : Vec F S128x4096 .f32 :=
  k3_pay2 (stg cfg3 W 0 t) (stg cfg3 W 1 t) (stg cfg3 W 2 t) (stg cfg3 W 3 t) (stg cfg3 W 4 t)

def after3 (W : Vl F) (w : Fin cfg3.W) (t : Fin cfg3.N) : (cfg3.win w).block.Idx → Elt F (cfg3.win w).elt :=
  match w with
  | ⟨0, _⟩ => stg cfg3 W 0 t
  | ⟨1, _⟩ => stg cfg3 W 1 t
  | ⟨2, _⟩ => stg cfg3 W 2 t
  | ⟨3, _⟩ => stg cfg3 W 3 t
  | ⟨4, _⟩ => stg cfg3 W 4 t
  | ⟨5, _⟩ => k2_pay1 (lay3 W t)
  | ⟨6, _⟩ => chain (lay3 W) t.val t.isLt

theorem first3 (t : Fin cfg3.N) : firstBit (BitVec.ofNat 32 (cfg3.grid.coords t 0).val) (BitVec.ofNat 32 (cfg3.grid.coords t 1).val) = 1#1 ↔ t.val = 0 := by
  rcases fin_N3 t with h | h | h | h | h | h | h | h <;> subst h <;> decide

theorem acc3 (c : Dev nD) (n : ℕ) (W : Vl F) (t : Fin cfg3.N) (d) (h : t.val ≠ 0) :
    (mkDat cfg3 c n W (after3 W)).before 6 t d = chain (lay3 W) (t.val - 1) (Nat.lt_of_le_of_lt (Nat.sub_le _ _) t.isLt) := by
  refine (Dat.before_out_kept _ 6 rfl t h ?_ (fun _ => rfl) (fun _ _ => rfl) d).trans rfl
  have := flush3_6 ⟨t.val - 1, Nat.lt_of_le_of_lt (Nat.sub_le _ _) t.isLt⟩
  rw [Bool.eq_false_iff]
  intro hf
  have h8 := t.isLt
  have hN : cfg3.N = 8 := N_3
  have h7 := this.mp hf
  simp only at h7
  omega

theorem oblig3 (c : Dev nD) (n : ℕ) (W : Vl F) : BodyObligation (mkDat cfg3 c n W (after3 W)) (defs₀ (F := F)) 𝒱₀ none Set.univ := fun t => by
  rw [bigSep_W3, bigSep_W3]
  rw [show (mkDat cfg3 c n W (after3 W)).Φ t.castSucc = (mkDat cfg3 c n W (after3 W)).Φ t.succ from rfl, show (mkDat cfg3 c n W (after3 W)).owesAt none t.succ = (mkDat cfg3 c n W (after3 W)).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [Dat.before_in_eq_fetched (mkDat cfg3 c n W (after3 W)) 0 rfl (fun _ => rfl) (fun _ _ _ => rfl) (fun _ => rfl) t d0,
    Dat.before_in_eq_fetched (mkDat cfg3 c n W (after3 W)) 1 rfl (fun _ => rfl) (fun _ _ _ => rfl) (fun _ => rfl) t d1,
    Dat.before_in_eq_fetched (mkDat cfg3 c n W (after3 W)) 2 rfl (fun _ => rfl) (fun _ _ _ => rfl) (fun _ => rfl) t d2,
    Dat.before_in_eq_fetched (mkDat cfg3 c n W (after3 W)) 3 rfl (fun _ => rfl) (fun _ _ _ => rfl) (fun _ => rfl) t d3,
    Dat.before_in_eq_fetched (mkDat cfg3 c n W (after3 W)) 4 rfl (fun _ => rfl) (fun _ _ _ => rfl) (fun _ => rfl) t d4]
  have hs := chain_step (lay3 W) t _ (first3 t) ((mkDat cfg3 c n W (after3 W)).before 6 t d6) (acc3 c n W t d6)
  iapply (mlp_run c (cfg3.grid.coords t) _ _ _ _ _ _ _ _ _ _ _ _ _ _ (stg cfg3 W 0 t) (stg cfg3 W 1 t) (stg cfg3 W 2 t) (stg cfg3 W 3 t) (stg cfg3 W 4 t) _ ((mkDat cfg3 c n W (after3 W)).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show k3_pay2 (stg cfg3 W 0 t) (stg cfg3 W 1 t) (stg cfg3 W 2 t) (stg cfg3 W 3 t) (stg cfg3 W 4 t) = lay3 W t from rfl, hs]
  iintro ⟨H0, H1, H2, H3, H4, H5, H6⟩
  iframe HΦ Howes
  isplitl [H0]; · iexact H0
  isplitl [H1]; · iexact H1
  isplitl [H2]; · iexact H2
  isplitl [H3]; · iexact H3
  isplitl [H4]; · iexact H4
  isplitl [H5]; · iexact H5
  iexact H6

/-! ## The third layer -/

/-- The layer's block at a point. -/
def lay4 (W : Vl F) (t : Fin cfg4.N) : Vec F S128x4096 .f32 :=
  k3_pay2 (stg cfg4 W 0 t) (stg cfg4 W 1 t) (stg cfg4 W 2 t) (stg cfg4 W 3 t) (stg cfg4 W 4 t)

def after4 (W : Vl F) (w : Fin cfg4.W) (t : Fin cfg4.N) : (cfg4.win w).block.Idx → Elt F (cfg4.win w).elt :=
  match w with
  | ⟨0, _⟩ => stg cfg4 W 0 t
  | ⟨1, _⟩ => stg cfg4 W 1 t
  | ⟨2, _⟩ => stg cfg4 W 2 t
  | ⟨3, _⟩ => stg cfg4 W 3 t
  | ⟨4, _⟩ => stg cfg4 W 4 t
  | ⟨5, _⟩ => k2_pay1 (lay4 W t)
  | ⟨6, _⟩ => chain (lay4 W) t.val t.isLt

theorem first4 (t : Fin cfg4.N) : firstBit (BitVec.ofNat 32 (cfg4.grid.coords t 0).val) (BitVec.ofNat 32 (cfg4.grid.coords t 1).val) = 1#1 ↔ t.val = 0 := by
  rcases fin_N4 t with h | h | h | h | h | h | h | h <;> subst h <;> decide

theorem acc4 (c : Dev nD) (n : ℕ) (W : Vl F) (t : Fin cfg4.N) (d) (h : t.val ≠ 0) :
    (mkDat cfg4 c n W (after4 W)).before 6 t d = chain (lay4 W) (t.val - 1) (Nat.lt_of_le_of_lt (Nat.sub_le _ _) t.isLt) := by
  refine (Dat.before_out_kept _ 6 rfl t h ?_ (fun _ => rfl) (fun _ _ => rfl) d).trans rfl
  have := flush4_6 ⟨t.val - 1, Nat.lt_of_le_of_lt (Nat.sub_le _ _) t.isLt⟩
  rw [Bool.eq_false_iff]
  intro hf
  have h8 := t.isLt
  have hN : cfg4.N = 8 := N_4
  have h7 := this.mp hf
  simp only at h7
  omega

theorem oblig4 (c : Dev nD) (n : ℕ) (W : Vl F) : BodyObligation (mkDat cfg4 c n W (after4 W)) (defs₀ (F := F)) 𝒱₀ none Set.univ := fun t => by
  rw [bigSep_W4, bigSep_W4]
  rw [show (mkDat cfg4 c n W (after4 W)).Φ t.castSucc = (mkDat cfg4 c n W (after4 W)).Φ t.succ from rfl, show (mkDat cfg4 c n W (after4 W)).owesAt none t.succ = (mkDat cfg4 c n W (after4 W)).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [Dat.before_in_eq_fetched (mkDat cfg4 c n W (after4 W)) 0 rfl (fun _ => rfl) (fun _ _ _ => rfl) (fun _ => rfl) t d0,
    Dat.before_in_eq_fetched (mkDat cfg4 c n W (after4 W)) 1 rfl (fun _ => rfl) (fun _ _ _ => rfl) (fun _ => rfl) t d1,
    Dat.before_in_eq_fetched (mkDat cfg4 c n W (after4 W)) 2 rfl (fun _ => rfl) (fun _ _ _ => rfl) (fun _ => rfl) t d2,
    Dat.before_in_eq_fetched (mkDat cfg4 c n W (after4 W)) 3 rfl (fun _ => rfl) (fun _ _ _ => rfl) (fun _ => rfl) t d3,
    Dat.before_in_eq_fetched (mkDat cfg4 c n W (after4 W)) 4 rfl (fun _ => rfl) (fun _ _ _ => rfl) (fun _ => rfl) t d4]
  have hs := chain_step (lay4 W) t _ (first4 t) ((mkDat cfg4 c n W (after4 W)).before 6 t d6) (acc4 c n W t d6)
  iapply (mlp_run c (cfg4.grid.coords t) _ (stage_whole4 0 _) _ (stage_whole4 1 _) _ (stage_whole4 2 _) _ (stage_whole4 3 _) _ (stage_whole4 4 _) _ (stage_whole4 5 _) _ (stage_whole4 6 _) (stg cfg4 W 0 t) (stg cfg4 W 1 t) (stg cfg4 W 2 t) (stg cfg4 W 3 t) (stg cfg4 W 4 t) _ ((mkDat cfg4 c n W (after4 W)).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show k3_pay2 (stg cfg4 W 0 t) (stg cfg4 W 1 t) (stg cfg4 W 2 t) (stg cfg4 W 3 t) (stg cfg4 W 4 t) = lay4 W t from rfl, hs]
  iintro ⟨H0, H1, H2, H3, H4, H5, H6⟩
  iframe HΦ Howes
  isplitl [H0]; · iexact H0
  isplitl [H1]; · iexact H1
  isplitl [H2]; · iexact H2
  isplitl [H3]; · iexact H3
  isplitl [H4]; · iexact H4
  isplitl [H5]; · iexact H5
  iexact H6

/-! ## The sum and the last rectification -/

def after5 (W : Vl F) (w : Fin cfg5.W) (t : Fin cfg5.N) : (cfg5.win w).block.Idx → Elt F (cfg5.win w).elt :=
  match w with
  | ⟨0, _⟩ => stg cfg5 W 0 t
  | ⟨1, _⟩ => stg cfg5 W 1 t
  | ⟨2, _⟩ => stg cfg5 W 2 t
  | ⟨3, _⟩ => stg cfg5 W 3 t
  | ⟨4, _⟩ => stg cfg5 W 4 t
  | ⟨5, _⟩ => stg cfg5 W 5 t
  | ⟨6, _⟩ => k5_pay1 (stg cfg5 W 1 t) (stg cfg5 W 4 t) (stg cfg5 W 5 t) (stg cfg5 W 0 t) (stg cfg5 W 2 t) (stg cfg5 W 3 t)

theorem oblig5 (c : Dev nD) (n : ℕ) (W : Vl F) : BodyObligation (mkDat cfg5 c n W (after5 W)) (defs₀ (F := F)) 𝒱₀ none Set.univ := fun t => by
  rw [bigSep_W5, bigSep_W5]
  rw [show (mkDat cfg5 c n W (after5 W)).Φ t.castSucc = (mkDat cfg5 c n W (after5 W)).Φ t.succ from rfl,
    show (mkDat cfg5 c n W (after5 W)).owesAt none t.succ = (mkDat cfg5 c n W (after5 W)).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [Dat.before_in_eq_fetched (mkDat cfg5 c n W (after5 W)) 0 rfl (fun _ => rfl) (fun _ _ _ => rfl) (fun _ => rfl) t d0,
    Dat.before_in_eq_fetched (mkDat cfg5 c n W (after5 W)) 1 rfl (fun _ => rfl) (fun _ _ _ => rfl) (fun _ => rfl) t d1,
    Dat.before_in_eq_fetched (mkDat cfg5 c n W (after5 W)) 2 rfl (fun _ => rfl) (fun _ _ _ => rfl) (fun _ => rfl) t d2,
    Dat.before_in_eq_fetched (mkDat cfg5 c n W (after5 W)) 3 rfl (fun _ => rfl) (fun _ _ _ => rfl) (fun _ => rfl) t d3,
    Dat.before_in_eq_fetched (mkDat cfg5 c n W (after5 W)) 4 rfl (fun _ => rfl) (fun _ _ _ => rfl) (fun _ => rfl) t d4,
    Dat.before_in_eq_fetched (mkDat cfg5 c n W (after5 W)) 5 rfl (fun _ => rfl) (fun _ _ _ => rfl) (fun _ => rfl) t d5]
  iapply (resid_run c (cfg5.grid.coords t) _ (stage_whole5 0 _) _ (stage_whole5 1 _) _ (stage_whole5 2 _) _ (stage_whole5 3 _) _ (stage_whole5 4 _) _ (stage_whole5 5 _) _ (stage_whole5 6 _) (stg cfg5 W 0 t) (stg cfg5 W 1 t) (stg cfg5 W 2 t) (stg cfg5 W 3 t) (stg cfg5 W 4 t) (stg cfg5 W 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iframe HΦ Howes
  isplitl [H0]; · iexact H0
  isplitl [H1]; · iexact H1
  isplitl [H2]; · iexact H2
  isplitl [H3]; · iexact H3
  isplitl [H4]; · iexact H4
  isplitl [H5]; · iexact H5
  iexact H6

end Cert.Proof.Run
-- ==== Proof.Gather.lean ====
/-
  The SparseCore gather: one vector subcore's task, and the call's payloads.
-/
module

public import proofs.«01_k».proof.Proof.Common
public import Idealize.ShloMosaic.Lib.Pipeline.ValueKit.Geometry

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev iLoc (d : Dev nD) : Loc nD τ sig := (SparseCore.T d).loc main_v3
abbrev xLoc (d : Dev nD) : Loc nD τ sig := (SparseCore.T d).loc main_v2
abbrev oLoc (d : Dev nD) : Loc nD τ sig := (SparseCore.T d).loc main_v4

local notation "iV" => (Memref.whole Cert.KernelIdeal.main_v3_scv : Memref Cert.KernelIdeal.sig Kind.scVector Space.hbm Cert.KernelIdeal.S98304 EltTy.i32)
local notation "xV" => (Memref.whole Cert.KernelIdeal.main_v2_scv : Memref Cert.KernelIdeal.sig Kind.scVector Space.hbm Cert.KernelIdeal.S8192x128 EltTy.f32)
local notation "oV" => (Memref.whole Cert.KernelIdeal.main_v4_scv : Memref Cert.KernelIdeal.sig Kind.scVector Space.hbm Cert.KernelIdeal.S98304x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

section Tile

variable (d : Dev nD) (L : grid1.Coords)

abbrev cV (L : grid1.Coords) : Fin τ.nSC := (L 0).castLE hcore1
abbrev jV (L : grid1.Coords) : Fin τ.nSub := (L 1).castLE hsub1

/-- Chunk `n` of the tile's result rows and of its index words, as the task addresses them. -/
abbrev oChunk (n : Fin 6) : Memref sig .scVector .hbm S512x128 .f32 :=
  (oV).slice (Rect.unit (s := S98304x128) (k1_off2 L (BitVec.ofNat 32 (512 * n.val))) S512x128.size (k1_off2_inb L n)) (fun _ => rfl)
abbrev iChunk (n : Fin 6) : Memref sig .scVector .hbm S512 .i32 :=
  (iV).slice (Rect.unit (s := S98304) (k1_off1 L (BitVec.ofNat 32 (512 * n.val))) S512.size (k1_off1_inb L n)) (fun _ => rfl)

/-- All of the table, as the gathers address it. -/
abbrev xAll : Memref sig .scVector .hbm S8192x128 .f32 := (xV).slice (Rect.unit (s := S8192x128) ![0, 0] S8192x128.size inb_S8192x128_S8192x128_0_0) (fun _ => rfl)

/-- The DMA semaphores of the task, by number: the gather's, then the twelve copies'. -/
abbrev semK : Fin 13 → DmaSems sig S_ := fun | 0 => cc1_scratch2 | 1 => cc1_scoped0 | 2 => cc1_scoped1 | 3 => cc1_scoped2 | 4 => cc1_scoped3 | 5 => cc1_scoped4 | 6 => cc1_scoped5 | 7 => cc1_scoped6 | 8 => cc1_scoped7 | 9 => cc1_scoped8 | 10 => cc1_scoped9 | 11 => cc1_scoped10 | 12 => cc1_scoped11

abbrev cellK (c : Fin τ.nSC) (i : Fin τ.nSub) (n : Fin 13) : GSem nD τ sig := (V d c i, .dma (semK n).sem)

theorem semK_inj : ∀ a b : Fin 13, (SemLoc.dma (semK a).sem : SemLoc sig) = .dma (semK b).sem → a = b := by decide
theorem semK_scoped : ∀ n : Fin 13, (SemLoc.dma (semK n).sem : SemLoc sig).isScoped .scVector = true := by decide

theorem cellK_inj (c : Fin τ.nSC) (i : Fin τ.nSub) : Function.Injective (cellK d c i) :=
  fun a b h => semK_inj a b (congrArg Prod.snd h)

/-- The rest of the subcore's own cells. -/
abbrev restCells (c : Fin τ.nSC) (i : Fin τ.nSub) : Finset (GSem nD τ sig) :=
  ownCells (V d c i) \ Finset.univ.map ⟨cellK d c i, cellK_inj d c i⟩

/-- A separating conjunction over thirteen, one by one. -/
theorem bigSep_13 {M : Type} [URA M] (Φ : Fin 13 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_6 {M : Type} [URA M] (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The subcore's own semaphores: the thirteen of the task, and the rest. -/
theorem ownSems0_V (c : Fin τ.nSC) (i : Fin τ.nSub) :
    (ownSems0 (V d c i) : sProp 𝕄)
      = iprop((bigSep Finset.univ fun n : Fin 13 => semVal (cellK d c i n) 0) ∗ bigSep (restCells d c i) fun g => semVal g 0) := by
  unfold SparseCore.Cfg.ownSems0
  have hs : Finset.univ.map ⟨cellK d c i, cellK_inj d c i⟩ ⊆ ownCells (V d c i) := by
    intro g hg
    obtain ⟨n, -, rfl⟩ := Finset.mem_map.mp hg
    exact mem_ownCells.mpr ⟨rfl, semK_scoped n⟩
  rw [SparseCore.bigSep_sdiff_split' hs, BI.bigSep_map]; rfl

/-- The two scratch buffers are among the subcore's own: they are them, at some contents, and the rest. -/
theorem ownBufs_V (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ bigSep (((ownRefs (τ := τ) (.scVector c i)).erase ((Proc.scVector c i).devRef cc1_scratch0)).erase
              ((Proc.scVector c i).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩)]

variable [FloatOps F]

abbrev iShPts (q : PosShare TreeShare) (I : Buf (Elt F) (iLoc d)) : sProp 𝕄 := iLoc d ↦{q} I
abbrev xShPts (q : PosShare TreeShare) (X : Buf (Elt F) (xLoc d)) : sProp 𝕄 := xLoc d ↦{q} X
abbrev oChunkPts (n : Fin 6) (f : Buf (Elt F) (oLoc d)) : sProp 𝕄 := oLoc d ↦[(oChunk L n).view.set]{fullShare} f

/-- One chunk of the task: the index words in, their rows gathered, the rows out; then `k`. -/
abbrev chunk {α : Type} (n : Fin 6) (sA sB : DmaSems sig S_) (k : Prog (TpuEff nD τ sig (Elt F) Λ₀ (.scVector (cV L) (jV L))) α) :
    Prog (TpuEff nD τ sig (Elt F) Λ₀ (.scVector (cV L) (jV L))) α := do
  Prog.lift (.enqueueDma (iChunk L n) (.here sV) (.dma sA.sem) (View.wordExact_bits rfl) (Memref.isWhole_whole _).wordExact ⟨Or.inl rfl, trivial⟩)
  Prog.lift (.waitDma2 sA.sem (iChunk L n) sV (View.wordExact_bits rfl) (Memref.isWhole_whole _).wordExact)
  SparseCore.enqueueIndirectGather rfl (xAll) rV gathers_S8192x128_S512x128 sV rfl cc1_scratch2.sem (View.wordExact_bits rfl) rfl (Or.inl rfl)
  SparseCore.waitIndirectGather cc1_scratch2.sem (xAll) rV (View.wordExact_bits rfl) (Memref.isWhole_whole _).wordExact
  Prog.lift (.enqueueDma rV (.here (oChunk L n)) (.dma sB.sem) (Memref.isWhole_whole _).wordExact (View.wordExact_bits rfl) ⟨Or.inl rfl, trivial⟩)
  Prog.lift (.waitDma2 sB.sem rV (oChunk L n) (Memref.isWhole_whole _).wordExact (View.wordExact_bits rfl))
  k

/-- What the gather leaves in the result: row `r` of it is the table's row numbered by index word `r`. -/
def gath (I : S98304.Idx → BitVec 32) (X : S8192x128.Idx → F .f32) : S98304x128.Idx → F .f32 :=
  fun x => X fun a => match a with
    | ⟨0, _⟩ => (Fin.ofNat 8192 (I fun b => match b with | ⟨0, _⟩ => ⟨(x 0).val, (x 0).isLt⟩).toNat : Fin 8192)
    | ⟨1, _⟩ => (⟨(x 1).val, (x 1).isLt⟩ : Fin 128)

/-- The chunk of rows landed is the gathered rows. -/
theorem gath_chunk (I : Buf (Elt F) (iLoc d)) (X : Buf (Elt F) (xLoc d)) (O₀ : Buf (Elt F) (oLoc d)) (hI : ∀ j, (I j : BitVec 32).toNat < 8192)
    (n : Fin 6) (lst : S512.Idx → Elt F .i32) (hl : lst = (iChunk L n).view.read (Elt F) I)
    (hin : ∀ x, (lst x).toNat < S8192x128.size gathers_S8192x128_S512x128.axis)
    (pay : S512x128.Idx → Elt F .f32)
    (hpay : pay = SparseCore.gatherPayload gathers_S8192x128_S512x128 ((xAll).view.read (Elt F) X) (SparseCore.rows lst rfl hin)) :
    ∀ i ∈ (oChunk L n).view.set, (oChunk L n).view.writes (Elt F) O₀ [⟨Rect.whole S512x128, pay⟩] i = gath I X i := by
  intro i hi
  obtain ⟨j, -, rfl⟩ := Finset.mem_map.mp hi
  have h := View.read_writes_cons_hit (Val := Elt F) (oChunk L n).view O₀ (Rect.whole S512x128) pay [] j j (Rect.emb_whole_apply S512x128 j)
  refine ((View.read_apply _ _).trans (cast_eq _ _)).symm.trans (h.trans ?_)
  subst hpay
  refine (View.read_apply _ _).trans ((cast_eq _ _).trans ?_)
  refine congrArg X (funext fun a => Fin.ext ?_)
  have e0 : ∀ x : S8192x128.Idx, ∀ b, ((xAll).view.emb x b).val = (x b).val := fun x b => by
    refine (ValueKit.view_emb_slice_whole_unit_val main_v2_scv _ _ _ x b).trans ?_
    match b with
    | ⟨0, _⟩ => exact Nat.zero_add _
    | ⟨1, _⟩ => exact Nat.zero_add _
  have e2 : ∀ b, ((oChunk L n).view.emb j b).val = ![6144 * (L 1).val + 3072 * (L 0).val + 512 * n.val, 0] b + (j b).val := fun b => by
    rw [← k1_off2_eq L n]; exact ValueKit.view_emb_slice_whole_unit_val main_v4_scv _ _ _ j b
  have e1 : ∀ (y : S512.Idx) b, ((iChunk L n).view.emb y b).val = ![6144 * (L 1).val + 3072 * (L 0).val + 512 * n.val] b + (y b).val := fun y b => by
    rw [← k1_off1_eq L n]; exact ValueKit.view_emb_slice_whole_unit_val main_v3_scv _ _ _ y b
  refine (e0 _ a).trans ?_
  match a with
  | ⟨0, _⟩ =>
    refine (congrArg Fin.val (Shape.Gathers.idx_axis gathers_S8192x128_S512x128 (SparseCore.rows lst rfl hin) j)).trans ?_
    change (lst (S512.rowMajor.symm _)).toNat = (I _).toNat % 8192
    rw [Nat.mod_eq_of_lt (hI _), hl, View.read_apply, cast_eq]
    refine congrArg (fun z => (I z : BitVec 32).toNat) (funext fun b => Fin.ext ?_)
    match b with
    | ⟨0, _⟩ =>
      refine (e1 _ 0).trans ((?_ : _ = _).trans (e2 0).symm)
      refine congrArg (6144 * (L 1).val + 3072 * (L 0).val + 512 * n.val + ·) ?_
      exact (Shape.rowMajor_val_one _).symm.trans (congrArg Fin.val (S512.rowMajor.apply_symm_apply _))
  | ⟨1, _⟩ =>
    refine (Shape.Gathers.idx_of_ne gathers_S8192x128_S512x128 (SparseCore.rows lst rfl hin) j 1 (by decide)).trans ?_
    refine ((e2 1).trans (Nat.zero_add _)).symm

/-- The words a chunk's fetch lands in the list's buffer are all rows of the table. -/
theorem inb_of_le (I : Buf (Elt F) (iLoc d)) (hI : ∀ j, (I j : BitVec 32).toNat < 8192) (n : Fin 6)
    (fs : Buf (Elt F) ((sV).view.loc (V d (cV L) (jV L)))) (pay : S512.Idx → Elt F .i32) (hpay : pay = (iChunk L n).view.read (Elt F) I) :
    ∀ x, ((sV).view.read (Elt F) (View.write (Elt F) (sV).view fs pay Finset.univ) x).toNat < S8192x128.size gathers_S8192x128_S512x128.axis := by
  subst hpay; intro x
  rw [View.write_whole_univ]
  simp only [Memref.view_whole, View.read_whole]
  rw [show ∀ j, (iChunk L n).view.read (Elt F) I j = I ((iChunk L n).view.emb j) from fun j => (View.read_apply _ _).trans (cast_eq _ _)]
  exact hI _

set_option maxHeartbeats 4000000 in
/-- One chunk's run: the chunk of the result at the gathered rows, everything else back. -/
theorem chunk_wp (q : PosShare TreeShare) (I : Buf (Elt F) (iLoc d)) (X : Buf (Elt F) (xLoc d)) (O₀ : Buf (Elt F) (oLoc d))
    (hI : ∀ j, (I j : BitVec 32).toNat < 8192) (O : CellTallies nD τ sig (HIx 1)) (W : Waits sig (HIx 1))
    (n : Fin 6) (sA sB : DmaSems sig S_) {α : Type} (k : Prog (TpuEff nD τ sig (Elt F) Λ₀ (.scVector (cV L) (jV L))) α) (Q : α → sProp 𝕄)
    (fs : Buf (Elt F) ((sV).view.loc (V d (cV L) (jV L)))) (fr : Buf (Elt F) ((rV).view.loc (V d (cV L) (jV L)))) :
    iprop(Transfers.MayWaits (V d (cV L) (jV L)) (default : HIx 1) O ∗
         ((iV).view.loc (V d (cV L) (jV L)) ↦{q} I) ∗ ((xV).view.loc (V d (cV L) (jV L)) ↦{q} X)
        ∗ ((oChunk L n).view.loc (V d (cV L) (jV L)) ↦[(oChunk L n).view.set]{fullShare} O₀)
        ∗ ((sV).view.loc (V d (cV L) (jV L)) ↦{fullShare} fs) ∗ ((rV).view.loc (V d (cV L) (jV L)) ↦{fullShare} fr)
        ∗ semVal (V d (cV L) (jV L), .dma cc1_scratch2.sem) 0 ∗ semVal (V d (cV L) (jV L), .dma sA.sem) 0 ∗ semVal (V d (cV L) (jV L), .dma sB.sem) 0
        ∗ owes (V d (cV L) (jV L)) O W
        ∗ (∀ fs' fr', (((iV).view.loc (V d (cV L) (jV L)) ↦{q} I) ∗ ((xV).view.loc (V d (cV L) (jV L)) ↦{q} X)
        ∗ ((oChunk L n).view.loc (V d (cV L) (jV L)) ↦[(oChunk L n).view.set]{fullShare} gath I X)
        ∗ ((sV).view.loc (V d (cV L) (jV L)) ↦{fullShare} fs') ∗ ((rV).view.loc (V d (cV L) (jV L)) ↦{fullShare} fr')
        ∗ semVal (V d (cV L) (jV L), .dma cc1_scratch2.sem) 0 ∗ semVal (V d (cV L) (jV L), .dma sA.sem) 0 ∗ semVal (V d (cV L) (jV L), .dma sB.sem) 0
        ∗ owes (V d (cV L) (jV L)) O (insert (.dma sB.sem, default) (insert (.dma cc1_scratch2.sem, default) (insert (.dma sA.sem, default) W))))
          -∗ wp frame (wpE (defs₀ (F := F)) 𝒱₀ (V d (cV L) (jV L)) none) Set.univ k Q))
      ⊢ wp frame (wpE (defs₀ (F := F)) 𝒱₀ (V d (cV L) (jV L)) none) Set.univ (chunk L n sA sB k) Q := by
  iintro ⟨#Hmw, Hi, Hx, Ho, Hs, Hr, Hm, HA, HB, HO, HQ⟩
  unfold chunk
  sl_exec
  have hin := inb_of_le (F := F) d L I hI n fs (chunk_wp.sl.dma0 d L I n) rfl
  sl_exec
  have hv : ∀ i ∈ (oChunk L n).view.set, (oChunk L n).view.writes (Elt F) O₀ [⟨Rect.whole S512x128, chunk_wp.sl.dma0_1 d L I X n fs fr hin⟩] i = gath I X i := by
    refine gath_chunk d L I X O₀ hI n _ ?_ hin _ ?_
    · rw [View.write_whole_univ]
      simp only [Memref.view_whole, View.read_whole]
      rfl
    · unfold chunk_wp.sl.dma0_1
      refine (View.read_whole _ _).trans ?_
      funext x
      refine Eq.trans ?_ (congrFun (show chunk_wp.sl.gather0 d L I X n fs hin = _ from rfl) x)
      exact ((View.read_apply _ _).trans (cast_eq _ _)).symm.trans (View.read_writes_cons_hit (Val := Elt F) (Memref.whole cc1_scratch1).view fr (Rect.whole cc1_scratch1.ty.shape) _ [] x x (Rect.emb_whole_apply cc1_scratch1.ty.shape x))
  ihave Ho' := (Entails.of_eq (pointsTo_congr (q := fullShare) hv)) $$ Ho
  iapply HQ $$ [$Hi $Hx $Ho' $Hs $Hr $Hm $HA $HB $HO]

/-- The task is its six chunks. -/
theorem task_eq : cc1_gather (F := F) L iV (Memref.isWhole_whole _) xV (Memref.isWhole_whole _) oV (Memref.isWhole_whole _)
            sV (Memref.isWhole_whole _) rV (Memref.isWhole_whole _) cc1_scratch2 cc1_scoped0 cc1_scoped1 cc1_scoped2 cc1_scoped3 cc1_scoped4
            cc1_scoped5 cc1_scoped6 cc1_scoped7 cc1_scoped8 cc1_scoped9 cc1_scoped10 cc1_scoped11
    = chunk L 0 cc1_scoped0 cc1_scoped1 (chunk L 1 cc1_scoped2 cc1_scoped3 (chunk L 2 cc1_scoped4 cc1_scoped5
        (chunk L 3 cc1_scoped6 cc1_scoped7 (chunk L 4 cc1_scoped8 cc1_scoped9 (chunk L 5 cc1_scoped10 cc1_scoped11 (pure ⟨⟩)))))) := by
  rw [cc1_gather_eq_skeleton]; rfl

/-- What a task holds: read shares of the index words and of the table, its six chunks of the result outright. -/
abbrev tileRes (q : PosShare TreeShare) (I : Buf (Elt F) (iLoc d)) (X : Buf (Elt F) (xLoc d)) (f : Buf (Elt F) (oLoc d)) : sProp 𝕄 :=
  iprop(iShPts d q I ∗ xShPts d q X ∗ bigSep Finset.univ fun n : Fin 6 => oChunkPts d L n f)

set_option maxHeartbeats 4000000 in
theorem tile_body (q : PosShare TreeShare) (I : Buf (Elt F) (iLoc d)) (X : Buf (Elt F) (xLoc d)) (O₀ : Buf (Elt F) (oLoc d))
    (hI : ∀ j, (I j : BitVec 32).toNat < 8192) (O : CellTallies nD τ sig (HIx 1)) (W : Waits sig (HIx 1)) (hO : ∀ g, O g none = 0) :
    iprop(levAts (K (F := F)).L (K (F := F)).lev ∗ emp ∗ tileRes d L q I X O₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L iV (Memref.isWhole_whole _) xV (Memref.isWhole_whole _) oV (Memref.isWhole_whole _)
            sV (Memref.isWhole_whole _) rV (Memref.isWhole_whole _) cc1_scratch2 cc1_scoped0 cc1_scoped1 cc1_scoped2 cc1_scoped3 cc1_scoped4
            cc1_scoped5 cc1_scoped6 cc1_scoped7 cc1_scoped8 cc1_scoped9 cc1_scoped10 cc1_scoped11)
          fun _ => iprop(tileRes d L q I X (gath I X)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [task_eq]
  unfold tileRes
  rw [(K (F := F)).scopedBufs_V facts d (cV L) (jV L), SparseCore.Cfg.scopedSems0_V (Val := Elt F) d (cV L) (jV L), ownSems0_V, ownBufs_V,
    bigSep_13, bigSep_6 (fun n => oChunkPts d L n O₀), bigSep_6 (fun n => oChunkPts d L n (gath I X))]
  iintro ⟨#Hlv, -, ⟨Hi, Hx, Ho0, Ho1, Ho2, Ho3, Ho4, Ho5⟩, ⟨⟨%fs, Hs⟩, ⟨%fr, Hr⟩, Hbufs⟩,
    ⟨⟨Hm, H0, H1, H2, H3, H4, H5, H6, H7, H8, H9, H10, H11⟩, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (chunk_wp d L q I X O₀ hI O _ 0 cc1_scoped0 cc1_scoped1 _ _ fs fr)
  iframe Hi Hx Ho0 Hs Hr Hm H0 H1 HO Hmw
  clear fs fr
  iintro %fs %fr ⟨Hi, Hx, Ho0, Hs, Hr, Hm, H0, H1, HO⟩
  iapply (chunk_wp d L q I X O₀ hI O _ 1 cc1_scoped2 cc1_scoped3 _ _ fs fr)
  iframe Hi Hx Ho1 Hs Hr Hm H2 H3 HO Hmw
  clear fs fr
  iintro %fs %fr ⟨Hi, Hx, Ho1, Hs, Hr, Hm, H2, H3, HO⟩
  iapply (chunk_wp d L q I X O₀ hI O _ 2 cc1_scoped4 cc1_scoped5 _ _ fs fr)
  iframe Hi Hx Ho2 Hs Hr Hm H4 H5 HO Hmw
  clear fs fr
  iintro %fs %fr ⟨Hi, Hx, Ho2, Hs, Hr, Hm, H4, H5, HO⟩
  iapply (chunk_wp d L q I X O₀ hI O _ 3 cc1_scoped6 cc1_scoped7 _ _ fs fr)
  iframe Hi Hx Ho3 Hs Hr Hm H6 H7 HO Hmw
  clear fs fr
  iintro %fs %fr ⟨Hi, Hx, Ho3, Hs, Hr, Hm, H6, H7, HO⟩
  iapply (chunk_wp d L q I X O₀ hI O _ 4 cc1_scoped8 cc1_scoped9 _ _ fs fr)
  iframe Hi Hx Ho4 Hs Hr Hm H8 H9 HO Hmw
  clear fs fr
  iintro %fs %fr ⟨Hi, Hx, Ho4, Hs, Hr, Hm, H8, H9, HO⟩
  iapply (chunk_wp d L q I X O₀ hI O _ 5 cc1_scoped10 cc1_scoped11 _ _ fs fr)
  iframe Hi Hx Ho5 Hs Hr Hm H10 H11 HO Hmw
  clear fs fr
  iintro %fs %fr ⟨Hi, Hx, Ho5, Hs, Hr, Hm, H10, H11, HO⟩
  simp only [wp_pure]
  imodintro
  iframe Hi Hx Ho0 Ho1 Ho2 Ho3 Ho4 Ho5 Hbufs Hm H0 H1 H2 H3 H4 H5 H6 H7 H8 H9 H10 H11 Hsems
  isplitl [Hs Hr]
  · isplitl [Hs]
    · iexists _; iexact Hs
    · iexists _; iexact Hr
  iexists _; isplitr
  swap; · iexact HO
  ipureintro; intro p hp
  simp only [Finset.mem_insert] at hp
  rcases hp with hp | hp | hp | hp | hp | hp | hp | hp | hp | hp | hp | hp | hp | hp | hp | hp | hp | hp | hp
  all_goals first | exact .inr (hp ▸ rfl) | exact .inl hp

end Tile

end Cert.Proof.Run

end
-- ==== Proof.Tiles.lean ====
/-
  The gather's call: what its handshakes carry, each task's obligation, and the operands cut into the tasks' parts and joined again.
-/
module

public import proofs.«01_k».proof.Proof.Gather
public import Idealize.ShloMosaic.Lib.ShareLeaves

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S98304 EltTy.i32)
local notation "xV" => (Memref.whole Cert.KernelIdeal.main_v2_scv : Memref Cert.KernelIdeal.sig Kind.scVector Space.hbm Cert.KernelIdeal.S8192x128 EltTy.f32)
local notation "oV" => (Memref.whole Cert.KernelIdeal.main_v4_scv : Memref Cert.KernelIdeal.sig Kind.scVector Space.hbm Cert.KernelIdeal.S98304x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

/-- The task at core `c`, subcore `s` of the launch's grid. -/
def coordsV (c : Fin (grid1.bound 0)) (s : Fin (grid1.bound 1)) : grid1.Coords :=
  fun | 0 => c | 1 => s | ⟨_ + 2, h⟩ => absurd h (Nat.not_lt.2 (Nat.le_add_left _ _))

abbrev tileL (p : Fin 2 × Fin 16) : grid1.Coords := coordsV p.1 p.2

/-- The two cores' sixteen tasks each, numbered. -/
def tileNo : Fin 2 × Fin 16 ≃ Fin (2 ^ 5) := finProdFinEquiv.trans (finCongr rfl)

/-- A task's share of what all the tasks read. -/
abbrev qT (p : Fin 2 × Fin 16) : PosShare TreeShare := ShareLeaves.leaf 5 fullShare (tileNo p)

variable [FloatOps F]
variable (I : ∀ d, Buf (Elt F) (iLoc d)) (X : ∀ d, Buf (Elt F) (xLoc d)) (O₀ : ∀ d, Buf (Elt F) (oLoc d))

/-- One task's part of the operands, with the result's contents `f`. -/
abbrev part (d : Dev nD) (p : Fin 2 × Fin 16) (f : Buf (Elt F) (oLoc d)) : sProp 𝕄 := tileRes d (tileL p) (qT p) (I d) (X d) f

/-- What the call's handshakes carry: each core its tasks' parts, each task its part. -/
def P : (K (F := F)).Pay (nD := nD) (Val := Elt F) (Name := ℕ) (U := UU) where
  st := fun q d c => match q with | 0 => iprop(bigSep Finset.univ fun i : Fin 16 => part I X d (Fin.cast nCore_zero c, i) (O₀ d))
  dn := fun q d c => match q with | 0 => iprop(bigSep Finset.univ fun i : Fin 16 => part I X d (Fin.cast nCore_zero c, i) (gath (I d) (X d)))
  go := fun q d c i => match q with | 0 => part I X d (Fin.cast nCore_zero c, Fin.cast nSub_zero i) (O₀ d)
  td := fun q d c i => match q with | 0 => part I X d (Fin.cast nCore_zero c, Fin.cast nSub_zero i) (gath (I d) (X d))
  x := fun _ _ => iprop(emp)

instance P_storable : (P I X O₀).IsStorable where
  st q d c := match q with
    | 0 => (inferInstance : BI.Storable (upEmb : UEmb _ 𝕄) iprop(bigSep Finset.univ fun i : Fin 16 => part I X d (Fin.cast nCore_zero c, i) (O₀ d)))
  dn q d c := match q with
    | 0 => (inferInstance : BI.Storable (upEmb : UEmb _ 𝕄) iprop(bigSep Finset.univ fun i : Fin 16 => part I X d (Fin.cast nCore_zero c, i) (gath (I d) (X d))))
  go q d c i := match q with
    | 0 => (inferInstance : BI.Storable (upEmb : UEmb _ 𝕄) (part I X d (Fin.cast nCore_zero c, Fin.cast nSub_zero i) (O₀ d)))
  td q d c i := match q with
    | 0 => (inferInstance : BI.Storable (upEmb : UEmb _ 𝕄) (part I X d (Fin.cast nCore_zero c, Fin.cast nSub_zero i) (gath (I d) (X d))))

theorem defs₀_vector (c : Fin τ.nSC) (s : Fin τ.nSub) :
    defs₀ (F := F) (.scVector c s) 1 ()
      = SparseCore.onTile hcore1 hsub1 (fun c s => cc1_gather (coordsV c s)
          iV (Memref.isWhole_whole _) xV (Memref.isWhole_whole _) oV (Memref.isWhole_whole _)
            sV (Memref.isWhole_whole _) rV (Memref.isWhole_whole _) cc1_scratch2 cc1_scoped0 cc1_scoped1 cc1_scoped2 cc1_scoped3 cc1_scoped4
            cc1_scoped5 cc1_scoped6 cc1_scoped7 cc1_scoped8 cc1_scoped9 cc1_scoped10 cc1_scoped11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hI : ∀ d j, (I d j : BitVec 32).toNat < 8192) : (K (F := F)).TileObl (D (F := F)) 𝒱 (P I X O₀) v₀ 0 := by
  intro d c i O W hO _ _
  simp only [show (P I X O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (qT (Fin.cast nCore_zero c, Fin.cast nSub_zero i)) (I d) (X d) (O₀ d) (hI d) O W hO).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P I X O₀) 0 := by
  intro d c
  show iprop(bigSep Finset.univ fun i : Fin 16 => part I X d (Fin.cast nCore_zero c, i) (O₀ d)) ⊢ |={Set.univ}=> iprop(
      (bigSep Finset.univ fun i : Fin ((K (F := F)).nSub 0) => part I X d (Fin.cast nCore_zero c, Fin.cast nSub_zero i) (O₀ d))
      ∗ ((bigSep Finset.univ fun i : Fin ((K (F := F)).nSub 0) => part I X d (Fin.cast nCore_zero c, Fin.cast nSub_zero i) (gath (I d) (X d)))
          -∗ (bigSep Finset.univ fun i : Fin 16 => part I X d (Fin.cast nCore_zero c, i) (gath (I d) (X d)))))
  rw [bigSep_tasks (F := F) (fun i => part I X d (Fin.cast nCore_zero c, i) (O₀ d)),
    bigSep_tasks (F := F) (fun i => part I X d (Fin.cast nCore_zero c, i) (gath (I d) (X d)))]
  iintro H; imodintro
  isplitl [H]; · iexact H
  iintro H; iexact H

/-! ## The operands whole, and in the tasks' parts -/

omit [FloatOps F] in
/-- Where a chunk's element lies in the result. -/
theorem oChunk_emb (L : grid1.Coords) (n : Fin 6) (j : S512x128.Idx) : ∀ b : Fin 2,
    ((oChunk L n).view.emb j b).val = ![6144 * (L 1).val + 3072 * (L 0).val + 512 * n.val, 0] b + (j b).val := fun b => by
  rw [← k1_off2_eq L n]; exact ValueKit.view_emb_slice_whole_unit_val main_v4_scv _ _ _ j b

/-- The rows a chunk holds. -/
abbrev oSet (d : Dev nD) (p : (Fin 2 × Fin 16) × Fin 6) : Finset (Idx (oLoc d)) := (oChunk (tileL p.1) p.2).view.set

omit [FloatOps F] in
theorem oSet_row (d : Dev nD) (p : (Fin 2 × Fin 16) × Fin 6) (x : S98304x128.Idx) (hx : x ∈ oSet d p) :
    (x 0).val / 512 = 12 * p.1.2.val + 6 * p.1.1.val + p.2.val := by
  obtain ⟨j, -, rfl⟩ := Finset.mem_map.mp hx
  have h : ((oChunk (tileL p.1) p.2).view.emb j 0).val = 6144 * p.1.2.val + 3072 * p.1.1.val + 512 * p.2.val + (j 0).val :=
    oChunk_emb (tileL p.1) p.2 j 0
  have hj : (j 0).val < 512 := (j 0).isLt
  have h' : ((oChunk (tileL p.1) p.2).view.emb j 0).val / 512 = 12 * p.1.2.val + 6 * p.1.1.val + p.2.val := by omega
  exact h'

omit [FloatOps F] in
theorem oSet_disjoint (d : Dev nD) : ∀ p ∈ (Finset.univ : Finset ((Fin 2 × Fin 16) × Fin 6)), ∀ p' ∈ (Finset.univ : Finset ((Fin 2 × Fin 16) × Fin 6)), p ≠ p' → Disjoint (oSet d p) (oSet d p') := by
  intro p _ p' _ hne
  refine Finset.disjoint_left.mpr fun x hx hx' => hne ?_
  have h := (oSet_row d p x hx).symm.trans (oSet_row d p' x hx')
  obtain ⟨⟨c, s⟩, n⟩ := p; obtain ⟨⟨c', s'⟩, n'⟩ := p'
  have := c.isLt; have := c'.isLt; have := n.isLt; have := n'.isLt
  simp only at h
  have e1 : s = s' := Fin.ext (by omega)
  have e2 : c = c' := Fin.ext (by omega)
  have e3 : n = n' := Fin.ext (by omega)
  rw [e1, e2, e3]

omit [FloatOps F] in
theorem oSet_cover (d : Dev nD) : (Finset.univ : Finset ((Fin 2 × Fin 16) × Fin 6)).biUnion (oSet d) = Finset.univ := by
  refine Finset.eq_univ_of_forall fun x => Finset.mem_biUnion.mpr ?_
  have hx : (x 0).val < 98304 := (x 0).isLt
  refine ⟨((⟨(x 0).val / 3072 % 2, by omega⟩, ⟨(x 0).val / 6144, by omega⟩), ⟨(x 0).val / 512 % 6, by omega⟩), Finset.mem_univ _, ?_⟩
  refine Finset.mem_map.mpr ⟨(fun a => match a with | ⟨0, _⟩ => (⟨(x 0).val % 512, Nat.mod_lt _ (by decide)⟩ : Fin 512) | ⟨1, _⟩ => (⟨(x 1).val, (x 1).isLt⟩ : Fin 128)), Finset.mem_univ _, ?_⟩
  refine funext fun a => Fin.ext ((oChunk_emb _ _ _ a).trans ?_)
  match a with
  | ⟨0, _⟩ =>
    show 6144 * ((x 0).val / 6144) + 3072 * ((x 0).val / 3072 % 2) + 512 * ((x 0).val / 512 % 6) + (x 0).val % 512 = (x 0).val
    omega
  | ⟨1, _⟩ => exact Nat.zero_add _

omit [FloatOps F] in
/-- The three operands whole are the thirty-two tasks' parts of them. -/
theorem parts_eq (d : Dev nD) (f : Buf (Elt F) (oLoc d)) :
    (iprop((iLoc d ↦{fullShare} I d) ∗ (xLoc d ↦{fullShare} X d) ∗ (oLoc d ↦{fullShare} f)) : sProp 𝕄)
      = bigSep Finset.univ fun c : Fin 2 => bigSep Finset.univ fun i : Fin 16 => part I X d (c, i) f := by
  rw [← bigSep_univ_prod (fun p : Fin 2 × Fin 16 => part I X d p f)]
  unfold part tileRes
  rw [bigSep_sep', bigSep_sep']
  rw [ShareLeaves.pointsTo_leaves Finset.univ (I d) 5 fullShare, ShareLeaves.pointsTo_leaves Finset.univ (X d) 5 fullShare,
    bigSep_univ_equiv tileNo, bigSep_univ_equiv tileNo,
    ← bigSep_univ_prod (fun p : (Fin 2 × Fin 16) × Fin 6 => oChunkPts d (tileL p.1) p.2 f)]
  rw [← pointsTo_biUnion Finset.univ (ℓ := oLoc d) (oSet d) (oSet_disjoint d), oSet_cover]

theorem st0_eq (d : Dev nD) : (bigSep Finset.univ fun c : Fin ((K (F := F)).nCore 0) => (P I X O₀).st 0 d c)
    = iprop((iLoc d ↦{fullShare} I d) ∗ (xLoc d ↦{fullShare} X d) ∗ (oLoc d ↦{fullShare} O₀ d)) :=
  (bigSep_cores (F := F) (fun c => bigSep Finset.univ fun i : Fin 16 => part I X d (c, i) (O₀ d))).trans (parts_eq I X d (O₀ d)).symm
theorem dn0_eq (d : Dev nD) : (bigSep Finset.univ fun c : Fin ((K (F := F)).nCore 0) => (P I X O₀).dn 0 d c)
    = iprop((iLoc d ↦{fullShare} I d) ∗ (xLoc d ↦{fullShare} X d) ∗ (oLoc d ↦{fullShare} gath (I d) (X d))) :=
  (bigSep_cores (F := F) (fun c => bigSep Finset.univ fun i : Fin 16 => part I X d (c, i) (gath (I d) (X d)))).trans (parts_eq I X d (gath (I d) (X d))).symm

end Cert.Proof.Run
-- ==== Proof.Host.lean ====
/-
  The host operations of @main between its calls, and the contents of every buffer before and after each call.
-/
module

public import proofs.«01_k».proof.Proof.Obligs
public import proofs.«01_k».proof.Proof.Tiles

@[expose] public section

noncomputable section

namespace Cert.Proof.Run

open Cert.KernelIdeal Cert.KernelIdeal.Gen
open Idealize.ShloMosaic Idealize.ShloMosaic.TcCoe
open Idealize.ShloMosaic.Pipeline Idealize.ShloMosaic.StableHlo

variable {F : FTy → Type} [FloatOps F]

/-- Between the first call and the gather: the features transposed to rows, the indices flattened. -/
def hostA : List (HloOp τ sig (Elt F)) :=
  [unary main_arg3 main_v1 ((transpose S4x2048x128 [0, 2, 1] · transposes_S4x128x2048_S4x2048x128_0_2_1) : (⟨S4x128x2048, .f32⟩ : BufTy).Contents (Elt F) → (⟨S4x2048x128, .f32⟩ : BufTy).Contents (Elt F)),
   reshape main_v1 main_v2 (rfl : (.f32 : EltTy) = .f32) shapeCasts_S4x2048x128_S8192x128,
   reshape main_v0_0 main_v3 (rfl : (.i32 : EltTy) = .i32) shapeCasts_S4x3x8192_S98304]
/-- Between the gather and the fused product: the gathered rows regrouped, the weight matrix split, the bias as a column. -/
def hostB : List (HloOp τ sig (Elt F)) :=
  [reshape main_v4 main_v5 (rfl : (.f32 : EltTy) = .f32) shapeCasts_S98304x128_S4x3x8192x128,
   unary main_arg4 main_v6 ((extractStridedSlice S128x64 ![0, 0] · slices_S128x192_S128x64_0_0) : (⟨S128x192, .f32⟩ : BufTy).Contents (Elt F) → (⟨S128x64, .f32⟩ : BufTy).Contents (Elt F)),
   unary main_arg4 main_v7 ((extractStridedSlice S128x128 ![0, 64] · slices_S128x192_S128x128_0_64) : (⟨S128x192, .f32⟩ : BufTy).Contents (Elt F) → (⟨S128x128, .f32⟩ : BufTy).Contents (Elt F)),
   reshape main_arg5 main_v8 (rfl : (.f32 : EltTy) = .f32) shapeCasts_S128_S128x1]
/-- The first batch normalisation folded into a scale and a shift. -/
def hostC : List (HloOp τ sig (Elt F)) :=
  [unary main_v9_1 main_v10 ((extractStridedSlice S1x128 ![0, 0] · slices_S2x128_S1x128_0_0) : (⟨S2x128, .f32⟩ : BufTy).Contents (Elt F) → (⟨S1x128, .f32⟩ : BufTy).Contents (Elt F)),
   reshape main_v10 main_v11 (rfl : (.f32 : EltTy) = .f32) shapeCasts_S1x128_S128,
   nullary main_cst (constant S_ .f32 0x47000000#32),
   unary main_cst main_v12 (broadcastInDim S128 ![] bcast_S_S128 : (⟨S_, .f32⟩ : BufTy).Contents (Elt F) → (⟨S128, .f32⟩ : BufTy).Contents (Elt F)),
   binary main_v11 main_v12 main_v13 (Host.divf : (⟨S128, .f32⟩ : BufTy).Contents (Elt F) → (⟨S128, .f32⟩ : BufTy).Contents (Elt F) → (⟨S128, .f32⟩ : BufTy).Contents (Elt F)),
   unary main_v9_1 main_v14 ((extractStridedSlice S1x128 ![1, 0] · slices_S2x128_S1x128_1_0) : (⟨S2x128, .f32⟩ : BufTy).Contents (Elt F) → (⟨S1x128, .f32⟩ : BufTy).Contents (Elt F)),
   reshape main_v14 main_v15 (rfl : (.f32 : EltTy) = .f32) shapeCasts_S1x128_S128,
   nullary main_cst_0 (constant S_ .f32 0x47000000#32),
   unary main_cst_0 main_v16 (broadcastInDim S128 ![] bcast_S_S128 : (⟨S_, .f32⟩ : BufTy).Contents (Elt F) → (⟨S128, .f32⟩ : BufTy).Contents (Elt F)),
   binary main_v15 main_v16 main_v17 (Host.divf : (⟨S128, .f32⟩ : BufTy).Contents (Elt F) → (⟨S128, .f32⟩ : BufTy).Contents (Elt F) → (⟨S128, .f32⟩ : BufTy).Contents (Elt F)),
   binary main_v13 main_v13 main_v18 (mulf : (⟨S128, .f32⟩ : BufTy).Contents (Elt F) → (⟨S128, .f32⟩ : BufTy).Contents (Elt F) → (⟨S128, .f32⟩ : BufTy).Contents (Elt F)),
   binary main_v17 main_v18 main_v19 (subf : (⟨S128, .f32⟩ : BufTy).Contents (Elt F) → (⟨S128, .f32⟩ : BufTy).Contents (Elt F) → (⟨S128, .f32⟩ : BufTy).Contents (Elt F)),
   nullary main_cst_1 (constant S_ .f32 0x3727C5AC#32),
   unary main_cst_1 main_v20 (broadcastInDim S128 ![] bcast_S_S128 : (⟨S_, .f32⟩ : BufTy).Contents (Elt F) → (⟨S128, .f32⟩ : BufTy).Contents (Elt F)),
   binary main_v19 main_v20 main_v21 (addf : (⟨S128, .f32⟩ : BufTy).Contents (Elt F) → (⟨S128, .f32⟩ : BufTy).Contents (Elt F) → (⟨S128, .f32⟩ : BufTy).Contents (Elt F)),
   unary main_v21 main_v22 (Host.sqrt : (⟨S128, .f32⟩ : BufTy).Contents (Elt F) → (⟨S128, .f32⟩ : BufTy).Contents (Elt F)),
   binary main_arg6 main_v22 main_v23 (Host.divf : (⟨S128, .f32⟩ : BufTy).Contents (Elt F) → (⟨S128, .f32⟩ : BufTy).Contents (Elt F) → (⟨S128, .f32⟩ : BufTy).Contents (Elt F)),
   binary main_v13 main_v23 main_v24 (mulf : (⟨S128, .f32⟩ : BufTy).Contents (Elt F) → (⟨S128, .f32⟩ : BufTy).Contents (Elt F) → (⟨S128, .f32⟩ : BufTy).Contents (Elt F)),
   binary main_arg7 main_v24 main_v25 (subf : (⟨S128, .f32⟩ : BufTy).Contents (Elt F) → (⟨S128, .f32⟩ : BufTy).Contents (Elt F) → (⟨S128, .f32⟩ : BufTy).Contents (Elt F)),
   reshape main_v23 main_v26 (rfl : (.f32 : EltTy) = .f32) shapeCasts_S128_S128x1,
   reshape main_v25 main_v27 (rfl : (.f32 : EltTy) = .f32) shapeCasts_S128_S128x1,
   reshape main_arg9 main_v28 (rfl : (.f32 : EltTy) = .f32) shapeCasts_S128_S128x1]
/-- The second batch normalisation folded into a scale and a shift. -/
def hostD : List (HloOp τ sig (Elt F)) :=
  [unary main_v29_1 main_v30 ((extractStridedSlice S1x128 ![0, 0] · slices_S2x128_S1x128_0_0) : (⟨S2x128, .f32⟩ : BufTy).Contents (Elt F) → (⟨S1x128, .f32⟩ : BufTy).Contents (Elt F)),
   reshape main_v30 main_v31 (rfl : (.f32 : EltTy) = .f32) shapeCasts_S1x128_S128,
   nullary main_cst_2 (constant S_ .f32 0x47000000#32),
   unary main_cst_2 main_v32 (broadcastInDim S128 ![] bcast_S_S128 : (⟨S_, .f32⟩ : BufTy).Contents (Elt F) → (⟨S128, .f32⟩ : BufTy).Contents (Elt F)),
   binary main_v31 main_v32 main_v33 (Host.divf : (⟨S128, .f32⟩ : BufTy).Contents (Elt F) → (⟨S128, .f32⟩ : BufTy).Contents (Elt F) → (⟨S128, .f32⟩ : BufTy).Contents (Elt F)),
   unary main_v29_1 main_v34 ((extractStridedSlice S1x128 ![1, 0] · slices_S2x128_S1x128_1_0) : (⟨S2x128, .f32⟩ : BufTy).Contents (Elt F) → (⟨S1x128, .f32⟩ : BufTy).Contents (Elt F)),
   reshape main_v34 main_v35 (rfl : (.f32 : EltTy) = .f32) shapeCasts_S1x128_S128,
   nullary main_cst_3 (constant S_ .f32 0x47000000#32),
   unary main_cst_3 main_v36 (broadcastInDim S128 ![] bcast_S_S128 : (⟨S_, .f32⟩ : BufTy).Contents (Elt F) → (⟨S128, .f32⟩ : BufTy).Contents (Elt F)),
   binary main_v35 main_v36 main_v37 (Host.divf : (⟨S128, .f32⟩ : BufTy).Contents (Elt F) → (⟨S128, .f32⟩ : BufTy).Contents (Elt F) → (⟨S128, .f32⟩ : BufTy).Contents (Elt F)),
   binary main_v33 main_v33 main_v38 (mulf : (⟨S128, .f32⟩ : BufTy).Contents (Elt F) → (⟨S128, .f32⟩ : BufTy).Contents (Elt F) → (⟨S128, .f32⟩ : BufTy).Contents (Elt F)),
   binary main_v37 main_v38 main_v39 (subf : (⟨S128, .f32⟩ : BufTy).Contents (Elt F) → (⟨S128, .f32⟩ : BufTy).Contents (Elt F) → (⟨S128, .f32⟩ : BufTy).Contents (Elt F)),
   nullary main_cst_4 (constant S_ .f32 0x3727C5AC#32),
   unary main_cst_4 main_v40 (broadcastInDim S128 ![] bcast_S_S128 : (⟨S_, .f32⟩ : BufTy).Contents (Elt F) → (⟨S128, .f32⟩ : BufTy).Contents (Elt F)),
   binary main_v39 main_v40 main_v41 (addf : (⟨S128, .f32⟩ : BufTy).Contents (Elt F) → (⟨S128, .f32⟩ : BufTy).Contents (Elt F) → (⟨S128, .f32⟩ : BufTy).Contents (Elt F)),
   unary main_v41 main_v42 (Host.sqrt : (⟨S128, .f32⟩ : BufTy).Contents (Elt F) → (⟨S128, .f32⟩ : BufTy).Contents (Elt F)),
   binary main_arg10 main_v42 main_v43 (Host.divf : (⟨S128, .f32⟩ : BufTy).Contents (Elt F) → (⟨S128, .f32⟩ : BufTy).Contents (Elt F) → (⟨S128, .f32⟩ : BufTy).Contents (Elt F)),
   binary main_v33 main_v43 main_v44 (mulf : (⟨S128, .f32⟩ : BufTy).Contents (Elt F) → (⟨S128, .f32⟩ : BufTy).Contents (Elt F) → (⟨S128, .f32⟩ : BufTy).Contents (Elt F)),
   binary main_arg11 main_v44 main_v45 (subf : (⟨S128, .f32⟩ : BufTy).Contents (Elt F) → (⟨S128, .f32⟩ : BufTy).Contents (Elt F) → (⟨S128, .f32⟩ : BufTy).Contents (Elt F)),
   reshape main_v43 main_v46 (rfl : (.f32 : EltTy) = .f32) shapeCasts_S128_S128x1,
   reshape main_v45 main_v47 (rfl : (.f32 : EltTy) = .f32) shapeCasts_S128_S128x1,
   reshape main_arg13 main_v48 (rfl : (.f32 : EltTy) = .f32) shapeCasts_S128_S128x1]
/-- The third fold, its first four operations. -/
def hostE₁ : List (HloOp τ sig (Elt F)) :=
  [unary main_v49_1 main_v50 ((extractStridedSlice S1x128 ![0, 0] · slices_S2x128_S1x128_0_0) : (⟨S2x128, .f32⟩ : BufTy).Contents (Elt F) → (⟨S1x128, .f32⟩ : BufTy).Contents (Elt F)),
   reshape main_v50 main_v51 (rfl : (.f32 : EltTy) = .f32) shapeCasts_S1x128_S128,
   nullary main_cst_5 (constant S_ .f32 0x47000000#32),
   unary main_cst_5 main_v52 (broadcastInDim S128 ![] bcast_S_S128 : (⟨S_, .f32⟩ : BufTy).Contents (Elt F) → (⟨S128, .f32⟩ : BufTy).Contents (Elt F))]
/-- The third fold, the rest. -/
def hostE₂ : List (HloOp τ sig (Elt F)) :=
  [binary main_v51 main_v52 main_v53 (Host.divf : (⟨S128, .f32⟩ : BufTy).Contents (Elt F) → (⟨S128, .f32⟩ : BufTy).Contents (Elt F) → (⟨S128, .f32⟩ : BufTy).Contents (Elt F)),
   unary main_v49_1 main_v54 ((extractStridedSlice S1x128 ![1, 0] · slices_S2x128_S1x128_1_0) : (⟨S2x128, .f32⟩ : BufTy).Contents (Elt F) → (⟨S1x128, .f32⟩ : BufTy).Contents (Elt F)),
   reshape main_v54 main_v55 (rfl : (.f32 : EltTy) = .f32) shapeCasts_S1x128_S128,
   nullary main_cst_6 (constant S_ .f32 0x47000000#32),
   unary main_cst_6 main_v56 (broadcastInDim S128 ![] bcast_S_S128 : (⟨S_, .f32⟩ : BufTy).Contents (Elt F) → (⟨S128, .f32⟩ : BufTy).Contents (Elt F)),
   binary main_v55 main_v56 main_v57 (Host.divf : (⟨S128, .f32⟩ : BufTy).Contents (Elt F) → (⟨S128, .f32⟩ : BufTy).Contents (Elt F) → (⟨S128, .f32⟩ : BufTy).Contents (Elt F)),
   binary main_v53 main_v53 main_v58 (mulf : (⟨S128, .f32⟩ : BufTy).Contents (Elt F) → (⟨S128, .f32⟩ : BufTy).Contents (Elt F) → (⟨S128, .f32⟩ : BufTy).Contents (Elt F)),
   binary main_v57 main_v58 main_v59 (subf : (⟨S128, .f32⟩ : BufTy).Contents (Elt F) → (⟨S128, .f32⟩ : BufTy).Contents (Elt F) → (⟨S128, .f32⟩ : BufTy).Contents (Elt F)),
   nullary main_cst_7 (constant S_ .f32 0x3727C5AC#32),
   unary main_cst_7 main_v60 (broadcastInDim S128 ![] bcast_S_S128 : (⟨S_, .f32⟩ : BufTy).Contents (Elt F) → (⟨S128, .f32⟩ : BufTy).Contents (Elt F)),
   binary main_v59 main_v60 main_v61 (addf : (⟨S128, .f32⟩ : BufTy).Contents (Elt F) → (⟨S128, .f32⟩ : BufTy).Contents (Elt F) → (⟨S128, .f32⟩ : BufTy).Contents (Elt F)),
   unary main_v61 main_v62 (Host.sqrt : (⟨S128, .f32⟩ : BufTy).Contents (Elt F) → (⟨S128, .f32⟩ : BufTy).Contents (Elt F)),
   binary main_arg14 main_v62 main_v63 (Host.divf : (⟨S128, .f32⟩ : BufTy).Contents (Elt F) → (⟨S128, .f32⟩ : BufTy).Contents (Elt F) → (⟨S128, .f32⟩ : BufTy).Contents (Elt F)),
   binary main_v53 main_v63 main_v64 (mulf : (⟨S128, .f32⟩ : BufTy).Contents (Elt F) → (⟨S128, .f32⟩ : BufTy).Contents (Elt F) → (⟨S128, .f32⟩ : BufTy).Contents (Elt F)),
   binary main_arg15 main_v64 main_v65 (subf : (⟨S128, .f32⟩ : BufTy).Contents (Elt F) → (⟨S128, .f32⟩ : BufTy).Contents (Elt F) → (⟨S128, .f32⟩ : BufTy).Contents (Elt F)),
   reshape main_v63 main_v66 (rfl : (.f32 : EltTy) = .f32) shapeCasts_S128_S128x1,
   reshape main_v65 main_v67 (rfl : (.f32 : EltTy) = .f32) shapeCasts_S128_S128x1]

theorem hostA_sub : ∀ op ∈ (hostA : List (HloOp τ sig (Elt F))), op.bufs ⊆ ucRefs τ sig := fun op h =>
  sub_ucRefs op (List.forall_iff_forall_mem.mp (show (hostA : List (HloOp τ sig (Elt F))).Forall fun op => op.bufs ⊆ tcRefs τ sig from
    ⟨unary_bufs_sub .., reshape_bufs_sub .., reshape_bufs_sub ..⟩) op h)
theorem hostA_fresh : ∀ op ∈ (hostA : List (HloOp τ sig (Elt F))), op.fresh = ∅ := List.forall_iff_forall_mem.mp (forall_fresh_of_map rfl)
theorem hostB_sub : ∀ op ∈ (hostB : List (HloOp τ sig (Elt F))), op.bufs ⊆ ucRefs τ sig := fun op h =>
  sub_ucRefs op (List.forall_iff_forall_mem.mp (show (hostB : List (HloOp τ sig (Elt F))).Forall fun op => op.bufs ⊆ tcRefs τ sig from
    ⟨reshape_bufs_sub .., unary_bufs_sub .., unary_bufs_sub .., reshape_bufs_sub ..⟩) op h)
theorem hostB_fresh : ∀ op ∈ (hostB : List (HloOp τ sig (Elt F))), op.fresh = ∅ := List.forall_iff_forall_mem.mp (forall_fresh_of_map rfl)
theorem hostC_sub : ∀ op ∈ (hostC : List (HloOp τ sig (Elt F))), op.bufs ⊆ ucRefs τ sig := fun op h =>
  sub_ucRefs op (List.forall_iff_forall_mem.mp (show (hostC : List (HloOp τ sig (Elt F))).Forall fun op => op.bufs ⊆ tcRefs τ sig from
    ⟨unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., reshape_bufs_sub .., reshape_bufs_sub .., reshape_bufs_sub ..⟩) op h)
theorem hostC_fresh : ∀ op ∈ (hostC : List (HloOp τ sig (Elt F))), op.fresh = ∅ := List.forall_iff_forall_mem.mp (forall_fresh_of_map rfl)
theorem hostD_sub : ∀ op ∈ (hostD : List (HloOp τ sig (Elt F))), op.bufs ⊆ ucRefs τ sig := fun op h =>
  sub_ucRefs op (List.forall_iff_forall_mem.mp (show (hostD : List (HloOp τ sig (Elt F))).Forall fun op => op.bufs ⊆ tcRefs τ sig from
    ⟨unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., reshape_bufs_sub .., reshape_bufs_sub .., reshape_bufs_sub ..⟩) op h)
theorem hostD_fresh : ∀ op ∈ (hostD : List (HloOp τ sig (Elt F))), op.fresh = ∅ := List.forall_iff_forall_mem.mp (forall_fresh_of_map rfl)
theorem hostE₁_sub : ∀ op ∈ (hostE₁ : List (HloOp τ sig (Elt F))), op.bufs ⊆ ucRefs τ sig := fun op h =>
  sub_ucRefs op (List.forall_iff_forall_mem.mp (show (hostE₁ : List (HloOp τ sig (Elt F))).Forall fun op => op.bufs ⊆ tcRefs τ sig from
    ⟨unary_bufs_sub .., reshape_bufs_sub .., nullary_bufs_sub .., unary_bufs_sub ..⟩) op h)
theorem hostE₁_fresh : ∀ op ∈ (hostE₁ : List (HloOp τ sig (Elt F))), op.fresh = ∅ := List.forall_iff_forall_mem.mp (forall_fresh_of_map rfl)
theorem hostE₂_sub : ∀ op ∈ (hostE₂ : List (HloOp τ sig (Elt F))), op.bufs ⊆ ucRefs τ sig := fun op h =>
  sub_ucRefs op (List.forall_iff_forall_mem.mp (show (hostE₂ : List (HloOp τ sig (Elt F))).Forall fun op => op.bufs ⊆ tcRefs τ sig from
    ⟨binary_bufs_sub .., unary_bufs_sub .., reshape_bufs_sub .., nullary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., reshape_bufs_sub .., reshape_bufs_sub ..⟩) op h)
theorem hostE₂_fresh : ∀ op ∈ (hostE₂ : List (HloOp τ sig (Elt F))), op.fresh = ∅ := List.forall_iff_forall_mem.mp (forall_fresh_of_map rfl)

variable [∀ e, Nonempty (Elt F e)] (m : (ℓ : Loc nD τ sig) → Buf (Elt F) ℓ) (d : Dev nD)

/-! ## The buffers' contents along @main: `V₀` at the start, `V₁` after the first region, and so on -/

def V₀ : Vl F := fun b => m (d, b)
def V₁ : Vl F := afterRegion (mkDat cfg0 d 0 (V₀ m d) (after0 (V₀ m d))) (V₀ m d)
def V₂ : Vl F := after hostA (V₁ m d)
/-- What the gather leaves: its result buffer rewritten. -/
def V₃ : Vl F := Function.update (V₂ m d) (Proc.devRef .tc main_v4)
  (gath (V₂ m d (Proc.devRef .tc main_v3)) (V₂ m d (Proc.devRef .tc main_v2)))
def V₄ : Vl F := after hostB (V₃ m d)
def V₅ : Vl F := afterRegion (mkDat cfg2 d 1 (V₄ m d) (after2 (V₄ m d))) (V₄ m d)
def V₆ : Vl F := after hostC (V₅ m d)
def V₇ : Vl F := afterRegion (mkDat cfg3 d 1 (V₆ m d) (after3 (V₆ m d))) (V₆ m d)
def V₈ : Vl F := after hostD (V₇ m d)
def V₉ : Vl F := afterRegion (mkDat cfg4 d 1 (V₈ m d) (after4 (V₈ m d))) (V₈ m d)
def V₁₀ : Vl F := after hostE₂ (after hostE₁ (V₉ m d))
def V₁₁ : Vl F := afterRegion (mkDat cfg5 d 1 (V₁₀ m d) (after5 (V₁₀ m d))) (V₁₀ m d)

/-- The regions' proof data. -/
def dats (p : Fin 5) (c : Dev nD) : Dat τ (Elt F) (SparseCore.Cfg.HIx 1) ℕ UU ℕ (pin (pcfgs (F := F)) adm p) c :=
  match p with
  | 0 => mkDat cfg0 c 0 (V₀ m c) (after0 (V₀ m c))
  | 1 => mkDat cfg2 c 1 (V₄ m c) (after2 (V₄ m c))
  | 2 => mkDat cfg3 c 1 (V₆ m c) (after3 (V₆ m c))
  | 3 => mkDat cfg4 c 1 (V₈ m c) (after4 (V₈ m c))
  | 4 => mkDat cfg5 c 1 (V₁₀ m c) (after5 (V₁₀ m c))

end Cert.Proof.Run

end
-- ==== Proof.Stretches.lean ====
/-
  The pieces of @main's run: the launch's ghost state, the gather's buffers among the held ones, @main as regions and host stretches.
-/
module

public import proofs.«01_k».proof.Proof.Host

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [∀ e, Nonempty (Elt F e)]

local notation "𝕄" => MT nD τ sig (HIx 1) (Elt F) ℕ UU ℕ

variable (m : (ℓ : Loc nD τ sig) → Buf (Elt F) ℓ) (g : Dev nD → PrngReg)

/-- The gather's operands and result when it is called. -/
abbrev gI (d : Dev nD) : Buf (Elt F) (iLoc d) := V₂ m d (Proc.devRef .tc main_v3)
abbrev gX (d : Dev nD) : Buf (Elt F) (xLoc d) := V₂ m d (Proc.devRef .tc main_v2)
abbrev gO (d : Dev nD) : Buf (Elt F) (oLoc d) := V₂ m d (Proc.devRef .tc main_v4)

/-- The index words the first region computes all name a row of the table. -/
def InRange : Prop := ∀ d j, (V₂ m d (Proc.devRef .tc main_v3) j : BitVec 32).toNat < 8192

/-! ## The launch's ghost state -/

def u₀ : UU :=
  (initOf (K (F := F)).hsCells (K (F := F)).hsToks, (initOf (cells (pin (pcfgs (F := F)) adm) cellOf_inj) (launchToks (pin (pcfgs (F := F)) adm) cellOf_inj), 1))

/-- What the launch deals each TensorCore beside its buffers: the five pipelines' cells and duty tokens. -/
def ghosts (d : Dev nD) : sProp 𝕄 :=
  bigSep Finset.univ fun p : Fin 5 => iprop(cellsGhost (pin (pcfgs (F := F)) adm) EP p d ∗ toksInit (pin (pcfgs (F := F)) adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (gI m) (gX m) (gO m)).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  ihave H := (show BI.own ((Emb.inl.trans embR : Emb UP 𝕄) (initOf (cells (pin (pcfgs (F := F)) adm) cellOf_inj) (launchToks (pin (pcfgs (F := F)) adm) cellOf_inj)))
      ⊢ iprop(|==> ((bigSep Finset.univ fun c : Dev nD => bigSep Finset.univ fun p => cellsGhost (pin (pcfgs (F := F)) adm) EP p c)
          ∗ (bigSep Finset.univ fun c : Dev nD => bigSep Finset.univ fun p => (toksInit (pin (pcfgs (F := F)) adm) EP p c : sProp 𝕄)))) from
    fund_ghost (pin (pcfgs (F := F)) adm) (EP (F := F)) cellOf_inj) $$ HP
  imod H with ⟨Hc, Ht⟩
  imodintro
  isplitl [HH]; · iexact HH
  isplitl [Hc Ht]
  · unfold ghosts
    rw [show (bigSep Finset.univ fun d : Dev nD => bigSep Finset.univ fun p : Fin 5 => iprop(cellsGhost (pin (pcfgs (F := F)) adm) EP p d ∗ toksInit (pin (pcfgs (F := F)) adm) EP p d) : sProp 𝕄)
        = iprop((bigSep Finset.univ fun c : Dev nD => bigSep Finset.univ fun p => cellsGhost (pin (pcfgs (F := F)) adm) EP p c)
          ∗ (bigSep Finset.univ fun c : Dev nD => bigSep Finset.univ fun p => (toksInit (pin (pcfgs (F := F)) adm) EP p c : sProp 𝕄))) from by
      simp only [bigSep_sep']]
    iframe Hc Ht
  rw [show (bigSep Finset.univ fun thr : Thread nD τ => bigSep Finset.univ fun q : Fin 1 => (P (gI m) (gX m) (gO m)).x q thr) = bigSep Finset.univ fun _ => iprop(emp) from
    bigSep_congr fun _ _ => bigSep_univ_of_subsingleton (0 : Fin 1), bigSep_emp']
  iempintro

/-! ## The gather's buffers among the held ones -/

/-- The gather's three buffers. -/
def gRefs : Finset (DevRef τ sig) := {Proc.devRef .tc main_v3, Proc.devRef .tc main_v2, Proc.devRef .tc main_v4}

theorem gRefs_sub : gRefs ⊆ ucRefs τ sig := by
  intro b hb
  rcases Finset.mem_insert.mp hb with rfl | hb
  · exact devRef_mem_ucRefs rfl
  rcases Finset.mem_insert.mp hb with rfl | hb
  · exact devRef_mem_ucRefs rfl
  · rw [Finset.mem_singleton.mp hb]; exact devRef_mem_ucRefs rfl

theorem held_gRefs (d : Dev nD) (W : Vl F) :
    (StableHlo.held (SparseCore.T d) gRefs W : sProp 𝕄) = iprop((iLoc d ↦{fullShare} W (Proc.devRef .tc main_v3)) ∗ (xLoc d ↦{fullShare} W (Proc.devRef .tc main_v2))
      ∗ oLoc d ↦{fullShare} W (Proc.devRef .tc main_v4)) := by
  unfold StableHlo.held gRefs
  rw [SparseCore.bigSep_insert' (by decide), SparseCore.bigSep_insert' (by decide), bigSep_singleton]

/-! ## @main -/

theorem held_gather (d : Dev nD) :
    (StableHlo.held (SparseCore.T d) (ucRefs τ sig) (V₃ m d) : sProp 𝕄)
      = iprop((((iLoc d ↦{fullShare} gI m d) ∗ (xLoc d ↦{fullShare} gX m d) ∗ oLoc d ↦{fullShare} gath (gI m d) (gX m d)))
        ∗ StableHlo.held (SparseCore.T d) (ucRefs τ sig \ gRefs) (V₂ m d)) := by
  rw [StableHlo.held_sub_split (SparseCore.T d) gRefs_sub (V₃ m d), held_gRefs,
    StableHlo.held_congr (SparseCore.T d) (S := ucRefs τ sig \ gRefs) (V := V₃ m d) (V' := V₂ m d) (fun b hb => Function.update_of_ne
      (fun e => (Finset.mem_sdiff.mp hb).2 (by rw [e, gRefs]; exact Finset.mem_insert_of_mem (Finset.mem_insert_of_mem (Finset.mem_singleton_self _)))) _ _)]
  unfold V₃
  rw [Function.update_self, Function.update_of_ne (StableHlo.devRef_ne_of_ne (by decide)), Function.update_of_ne (StableHlo.devRef_ne_of_ne (by decide))]

/-- A host stretch of @main over all the unscoped buffers. -/
theorem host_wp (d : Dev nD) (ops : List (HloOp τ sig (Elt F))) (hS : ∀ op ∈ ops, op.bufs ⊆ ucRefs τ sig) (hf : ∀ op ∈ ops, op.fresh = ∅)
    (W : Vl F) {β : Type} (k : PUnit → Prog (TpuEff nD τ sig (Elt F) (SparseCore.Sig (ΛP (F := F)) 1) .tc) β) {Q : β → sProp 𝕄} :
    iprop(boundary (SparseCore.T d) ∗ StableHlo.held (SparseCore.T d) (ucRefs τ sig) W
      ∗ (boundary (SparseCore.T d) ∗ StableHlo.held (SparseCore.T d) (ucRefs τ sig) (StableHlo.after ops W)
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq ops >>= k) Q := by
  iintro ⟨Hb, Hh, Hk⟩
  iapply (StableHlo.wp_seq 𝒱 none Set.univ d (ucRefs τ sig) k ops hS hf W) $$ [Hb Hh]
  · iframe Hb Hh
  iexact Hk

/-- What @main's TensorCore ends with: every unscoped buffer at the last valuation. -/
abbrev FIN (d : Dev nD) : sProp 𝕄 := StableHlo.held (SparseCore.T d) (ucRefs τ sig) (V₁₁ m d)

set_option maxHeartbeats 1000000 in
theorem main_part0_eq (d : Dev nD) : (main_part0 (F := F) d) = (do
    Prog.lift (.customCall (SparseCore.inner (entry (0 : Fin 5))) ())
    StableHlo.seq hostA
    (K (F := F)).run d 0
    StableHlo.seq hostB
    Prog.lift (.customCall (SparseCore.inner (entry (1 : Fin 5))) ())
    StableHlo.seq hostC
    Prog.lift (.customCall (SparseCore.inner (entry (2 : Fin 5))) ())
    StableHlo.seq hostD
    Prog.lift (.customCall (SparseCore.inner (entry (3 : Fin 5))) ())
    StableHlo.seq hostE₁
    pure ⟨⟩) := Eq.refl _

theorem main_part1_eq (d : Dev nD) : (main_part1 (F := F) d) = (do
    StableHlo.seq hostE₂
    Prog.lift (.customCall (SparseCore.inner (entry (4 : Fin 5))) ())
    pure ⟨⟩) := Eq.refl _

theorem main_eq (d : Dev nD) : main (F := F) d = (main_part0 d >>= fun _ => main_part1 d) := Eq.refl _

end Cert.Proof.Run

end
-- ==== Proof.Main.lean ====
/-
  The whole run of @main: the five regions, the gather and the host operations between them, every buffer's contents followed to the end.
-/
module

public import proofs.«01_k».proof.Proof.Stretches

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [∀ e, Nonempty (Elt F e)]

local notation "𝕄" => MT nD τ sig (HIx 1) (Elt F) ℕ UU ℕ

variable (m : (ℓ : Loc nD τ sig) → Buf (Elt F) ℓ) (g : Dev nD → PrngReg)

/-- The pipelines' ghost state, pipeline by pipeline. -/
theorem ghosts_eq (d : Dev nD) : (ghosts d : sProp 𝕄) =
    iprop((cellsGhost (pin (pcfgs (F := F)) adm) EP 0 d ∗ toksInit (pin (pcfgs (F := F)) adm) EP 0 d)
      ∗ (cellsGhost (pin (pcfgs (F := F)) adm) EP 1 d ∗ toksInit (pin (pcfgs (F := F)) adm) EP 1 d)
      ∗ (cellsGhost (pin (pcfgs (F := F)) adm) EP 2 d ∗ toksInit (pin (pcfgs (F := F)) adm) EP 2 d)
      ∗ (cellsGhost (pin (pcfgs (F := F)) adm) EP 3 d ∗ toksInit (pin (pcfgs (F := F)) adm) EP 3 d)
      ∗ (cellsGhost (pin (pcfgs (F := F)) adm) EP 4 d ∗ toksInit (pin (pcfgs (F := F)) adm) EP 4 d)) := by
  unfold ghosts
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem held_before (d : Dev nD) :
    (StableHlo.held (SparseCore.T d) (ucRefs τ sig) (StableHlo.after hostA (V₁ m d)) : sProp 𝕄)
      = iprop(((iLoc d ↦{fullShare} gI m d) ∗ (xLoc d ↦{fullShare} gX m d) ∗ oLoc d ↦{fullShare} gO m d)
        ∗ StableHlo.held (SparseCore.T d) (ucRefs τ sig \ gRefs) (V₂ m d)) := by
  rw [← held_gRefs d (V₂ m d), ← StableHlo.held_sub_split (SparseCore.T d) gRefs_sub (V₂ m d)]
  rfl

theorem hmain (κ : GSem nD τ sig → ℕ) (d : Dev nD) :
    iprop((K (F := F)).ctx EH (P (gI m) (gX m) (gO m)) κ ∗ (K (F := F)).tcSt EH d 0 ∗ (K (F := F)).tcRes m g d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = StableHlo.held (SparseCore.T d) (ucRefs τ sig) (V₀ m d) from unscopedBufs_held d (V₀ m d), ghosts_eq]
  rw [main_eq, main_part0_eq, main_part1_eq]
  iintro ⟨#Hctx, Hst, ⟨Hb, Hh, Hts, -⟩, ⟨Hc0, Ht0⟩, ⟨Hc1, Ht1⟩, ⟨Hc2, Ht2⟩, ⟨Hc3, Ht3⟩, Hc4, Ht4⟩
  ihave #Hl := (SparseCore.Cfg.ctx_levAts κ) $$ Hctx
  rw [wp_bind, wp_bind]
  ihave Hst' := (show (K (F := F)).tcSt EH d 0 ⊢ iprop(owed d 0 ∗ _) from by unfold SparseCore.Cfg.tcSt; exact BIBase.Entails.rfl) $$ Hst
  icases Hst' with ⟨HO, Hrest⟩
  iapply (region_wp (dats m) 0 0 launch0 (V₀ m) (fun c => after0 (V₀ m c)) (fun _ => rfl) (fun c => oblig0 c 0 (V₀ m c)) d)
  iframe Hl Hb Hh HO Hc0 Ht0
  iintro ⟨Hb, Hh, HO⟩
  iapply (host_wp d hostA hostA_sub hostA_fresh (V₁ m d))
  iframe Hb Hh
  iintro ⟨Hb, Hh⟩
  ihave Hh' := (Entails.of_eq (held_before m d)) $$ Hh
  icases Hh' with ⟨Hg, Hh⟩
  rw [wp_bind]
  iapply ((K (F := F)).wp_run (D (F := F)) 𝒱 (EH := EH) (P := P (gI m) (gX m) (gO m)) κ d 0)
  rw [st0_eq]
  iframe Hctx Hg
  isplitl [HO Hrest]
  · iapply (show iprop(owed d 0 ∗ _) ⊢ (K (F := F)).tcSt EH d 0 from by unfold SparseCore.Cfg.tcSt; exact BIBase.Entails.rfl)
    iframe HO Hrest
  iintro ⟨Hst, Hdn⟩
  ihave Hg := (Entails.of_eq (dn0_eq (gI m) (gX m) (gO m) d)) $$ Hdn
  ihave Hh' := (Entails.of_eq (held_gather m d).symm) $$ [Hg Hh]
  · iframe Hg Hh
  iapply (host_wp d hostB hostB_sub hostB_fresh (V₃ m d))
  iframe Hb Hh'
  iintro ⟨Hb, Hh⟩
  ihave Hst' := (show (K (F := F)).tcSt EH d ((0 : Fin 1).val + 1) ⊢ iprop(owed d 1 ∗ _) from by unfold SparseCore.Cfg.tcSt; exact BIBase.Entails.rfl) $$ Hst
  icases Hst' with ⟨HO, Hrest⟩
  rw [wp_bind]
  iapply (region_wp (dats m) 1 1 launch2 (V₄ m) (fun c => after2 (V₄ m c)) (fun _ => rfl) (fun c => oblig2 c 1 (V₄ m c)) d)
  iframe Hl Hb Hh HO Hc1 Ht1
  iintro ⟨Hb, Hh, HO⟩
  iapply (host_wp d hostC hostC_sub hostC_fresh (V₅ m d))
  iframe Hb Hh
  iintro ⟨Hb, Hh⟩
  rw [wp_bind]
  iapply (region_wp (dats m) 2 1 launch3 (V₆ m) (fun c => after3 (V₆ m c)) (fun _ => rfl) (fun c => oblig3 c 1 (V₆ m c)) d)
  iframe Hl Hb Hh HO Hc2 Ht2
  iintro ⟨Hb, Hh, HO⟩
  iapply (host_wp d hostD hostD_sub hostD_fresh (V₇ m d))
  iframe Hb Hh
  iintro ⟨Hb, Hh⟩
  rw [wp_bind]
  iapply (region_wp (dats m) 3 1 launch4 (V₈ m) (fun c => after4 (V₈ m c)) (fun _ => rfl) (fun c => oblig4 c 1 (V₈ m c)) d)
  iframe Hl Hb Hh HO Hc3 Ht3
  iintro ⟨Hb, Hh, HO⟩
  iapply (host_wp d hostE₁ hostE₁_sub hostE₁_fresh (V₉ m d))
  iframe Hb Hh
  iintro ⟨Hb, Hh⟩
  rw [wp_pure]
  imodintro
  iapply (host_wp d hostE₂ hostE₂_sub hostE₂_fresh (StableHlo.after hostE₁ (V₉ m d)))
  iframe Hb Hh
  iintro ⟨Hb, Hh⟩
  rw [wp_bind]
  iapply (region_wp (dats m) 4 1 launch5 (V₁₀ m) (fun c => after5 (V₁₀ m c)) (fun _ => rfl) (fun c => oblig5 c 1 (V₁₀ m c)) d)
  iframe Hl Hb Hh HO Hc4 Ht4
  iintro ⟨Hb, Hh, HO⟩
  rw [wp_pure]
  imodintro
  iframe Hb Hts Hh
  iapply (show iprop(owed d 1 ∗ _) ⊢ (K (F := F)).tcSt EH d ((0 : Fin 1).val + 1) from by unfold SparseCore.Cfg.tcSt; exact BIBase.Entails.rfl)
  iframe HO Hrest

/-- At the end every unscoped buffer of the TensorCore holds what the last valuation says. -/
def fq (d : Dev nD) (s' : Phys nD τ sig (Elt F)) : Prop := ∀ b ∈ ucRefs τ sig, s'.mem.mem (d, b) = V₁₁ m d b

theorem hfin (d : Dev nD) (s' : Phys nD τ sig (Elt F)) : iprop(FIN m d ∗ SI s') ⊢ (⌜fq m d s'⌝ : sProp 𝕄) := by
  show iprop((bigSep (ucRefs τ sig) fun b => (d, b) ↦{fullShare} V₁₁ m d b) ∗ SI s') ⊢ _
  iintro ⟨Hh, HS⟩
  iapply (SI_pointsTo_bufs_agree (st := s') (c := d) (qs := fun _ => fullShare) (F := V₁₁ m d) (ucRefs τ sig))
  isplitl [HS]; · iexact HS
  iexact Hh

def QC : PUnit × MemSt nD τ sig (Elt F) → Prop := fun r => (∀ d, ∀ b ∈ ucRefs τ sig, r.2.mem (d, b) = V₁₁ m d b) ∧ r.2.sem = fun _ => 0

/-- Every fair run of the kernel ends with every unscoped buffer at the last valuation, if the index words of the first call are in range. -/
theorem run_main (hI : InRange m) :
    θ_run (Cert.KernelIdeal.defs (F := F)) (Cert.KernelIdeal.threads (F := F)) ⟨m, fun _ => 0, g⟩ (QC m) :=
  SparseCore.Cfg.θ_run_sc_quiescent (K := K (F := F)) (D := D (F := F)) (𝒱 := 𝒱) (EH := EH) (P := P (gI m) (gX m) (gO m)) (A := ∅) facts v₀
    (fun q hq => match q with | 0 => nomatch hq)
    (fun q _ => match q with | 0 => tileObl (gI m) (gX m) (gO m) hI)
    (fun q _ => match q with | 0 => SparseCore.Cfg.VecSplit.of_plain (vecSplit (gI m) (gX m) (gO m)))
    m g main ghosts (FIN m) (u₀ (F := F)) (sep_elim_left.trans (hu₀ m)) (hmain m g) (fq m) (hfin m) (QC m) (fun _ h hz => ⟨h, hz⟩)

end Cert.Proof.Run

end
-- ==== Proof.Least.lean ====
/-
  The least of a row of small words, taken by the signed minimum from the greatest positive word.
-/
module

public import proofs.«01_k».proof.Proof.Bodies
public import Idealize.ShloMosaic.PureOps.Reduce
public import Idealize.ShloMosaic.Lib.Pointwise.SelectCore

@[expose] public section

noncomputable section

namespace Cert.Proof.Run

open Cert.KernelIdeal Cert.KernelIdeal.Gen
open Idealize.ShloMosaic

/-- The signed minimum of two words of clear sign bit is the minimum of the numbers. -/
theorem toNat_minsi {a b : BitVec 32} (ha : a.toNat < 2 ^ 31) (hb : b.toNat < 2 ^ 31) : (IntOp.minsi a b).toNat = min a.toNat b.toNat := by
  have ea := BitVec.toInt_eq_toNat_cond a
  have eb := BitVec.toInt_eq_toNat_cond b
  unfold IntOp.minsi
  simp only [BitVec.slt, decide_eq_true_eq]
  split <;> omega

/-- The signed minimum over a set, from the greatest positive word: at most every word of the set, and one of them if the set has any. -/
theorem minsi_fold {ι : Type} [DecidableEq ι] (s : Finset ι) (f : ι → BitVec 32) (h : ∀ i ∈ s, (f i).toNat < 2 ^ 31) :
    (s.fold IntOp.minsi (2147483647#32) f).toNat < 2 ^ 31 ∧ (∀ i ∈ s, (s.fold IntOp.minsi (2147483647#32) f).toNat ≤ (f i).toNat)
      ∧ (s.Nonempty → ∃ i ∈ s, (s.fold IntOp.minsi (2147483647#32) f).toNat = (f i).toNat) := by
  induction s using Finset.induction_on with
  | empty => exact ⟨by rw [Finset.fold_empty]; decide, fun i hi => absurd hi (Finset.notMem_empty i), fun hn => absurd hn (by simp)⟩
  | insert a s ha ih =>
    obtain ⟨h1, h2, h3⟩ := ih fun i hi => h i (Finset.mem_insert_of_mem hi)
    have hfa := h a (Finset.mem_insert_self a s)
    have e : ((insert a s).fold IntOp.minsi (2147483647#32) f).toNat = min (f a).toNat (s.fold IntOp.minsi (2147483647#32) f).toNat := by
      rw [Finset.fold_insert ha, toNat_minsi hfa h1]
    refine ⟨by omega, fun i hi => ?_, fun _ => ?_⟩
    · rcases Finset.mem_insert.mp hi with rfl | hi
      · omega
      · have := h2 i hi; omega
    · rcases s.eq_empty_or_nonempty with rfl | hn
      · refine ⟨a, Finset.mem_insert_self a _, ?_⟩
        rw [e, Finset.fold_empty, min_eq_left (by show _ ≤ 2147483647; omega)]
      · obtain ⟨i, hi, hie⟩ := h3 hn
        by_cases hc : (f a).toNat ≤ (s.fold IntOp.minsi (2147483647#32) f).toNat
        · exact ⟨a, Finset.mem_insert_self a s, by omega⟩
        · exact ⟨i, Finset.mem_insert_of_mem hi, by omega⟩

/-- The least lane of each row, as a fold over the row's lanes. -/
theorem rowMin_eq (X : IVec S4096x2048 32) (j : S4096.Idx) :
    multiReductionI .minsi [1] S4096 X 2147483647#32 reduces_S4096x2048_S4096 rfl j
      = (Finset.univ : Finset (Fin 2048)).fold IntOp.minsi (2147483647#32) (X ∘ reduces_S4096x2048_S4096.lift j) :=
  (multiReductionI_eq_fold .minsi X _ _ rfl j).trans (reduces_S4096x2048_S4096.fold_filter_drop_single _ _ X j)

theorem rowMin_le (X : IVec S4096x2048 32) (n : ℕ) (hn : n < 2 ^ 31) (hX : ∀ i, (X i).toNat ≤ n) (j : S4096.Idx) :
    (multiReductionI .minsi [1] S4096 X 2147483647#32 reduces_S4096x2048_S4096 rfl j).toNat ≤ n := by
  rw [rowMin_eq]
  exact ((minsi_fold Finset.univ _ fun i _ => lt_of_le_of_lt (hX _) hn).2.1 (⟨0, by decide⟩ : Fin 2048) (Finset.mem_univ _)).trans (hX _)

variable {F : FTy → Type} [FloatOps F]

/-- A lane's own number, or the last lane's. -/
theorem lane_le (c : IVec S4096x2048 1) (i : S4096x2048.Idx) :
    (select c (iota .tc S4096x2048 32 [1] iota_S4096x2048_d1_w32) (broadcast S4096x2048 2047#32) i : BitVec 32).toNat ≤ 2047 := by
  have h : (iota .tc S4096x2048 32 [1] iota_S4096x2048_d1_w32 i : BitVec 32).toNat ≤ 2047 := by
    have := (i 1).isLt
    have h' : (i 1).val < 2048 := this
    show (BitVec.ofNat 32 (0 * 2048 + (i 1).val)).toNat ≤ _
    rw [BitVec.toNat_ofNat, Nat.mod_eq_of_lt (by omega)]
    omega
  show (Scalar.select _ _ _ : BitVec 32).toNat ≤ _
  unfold Scalar.select
  split
  · exact h
  · exact (by decide : (2047#32).toNat ≤ 2047)

/-- A bound on the lanes of three rows is a bound on the lanes of their stack. -/
theorem three_le (n : ℕ) (u v w : IVec S1x4096 32) (hu : ∀ i, (u i).toNat ≤ n) (hv : ∀ i, (v i).toNat ≤ n) (hw : ∀ i, (w i).toNat ≤ n) (j : S3x4096.Idx) :
    (concatenate S3x4096 0 [⟨S1x4096, u⟩, ⟨S1x4096, v⟩, ⟨S1x4096, w⟩] concatenates_S1x4096_S1x4096_S1x4096_S3x4096_d0 j : BitVec 32).toNat ≤ n := by
  refine concatenate_forall (P := fun v : BitVec 32 => v.toNat ≤ n) S3x4096 0 [⟨S1x4096, u⟩, ⟨S1x4096, v⟩, ⟨S1x4096, w⟩]
    concatenates_S1x4096_S1x4096_S1x4096_S3x4096_d0 (fun p hp => ?_) j
  rcases List.mem_cons.mp hp with rfl | hp
  · exact hu
  rcases List.mem_cons.mp hp with rfl | hp
  · exact hv
  rcases List.mem_cons.mp hp with rfl | hp
  · exact hw
  · exact absurd hp List.not_mem_nil

/-- The row numbers that the first kernel writes are below the flat table's 8192 rows. -/
theorem knnIdx_lt (b : BitVec 32) (hb : b.toNat < 4) (x : Vec F S1x4096x3 .f32) (y : Vec F S1x2048x3 .f32) (j : S1x3x4096.Idx) :
    (knnIdx b x y j : BitVec 32).toNat < 8192 := by
  have hl : ∀ c : IVec S4096x2048 1, ∀ k, (multiReductionI .minsi [1] S4096 (select c (iota .tc S4096x2048 32 [1] iota_S4096x2048_d1_w32)
      (broadcast S4096x2048 2047#32)) 2147483647#32 reduces_S4096x2048_S4096 rfl k : BitVec 32).toNat ≤ 2047 :=
    fun c k => rowMin_le _ 2047 (by decide) (lane_le c) k
  have key : ∀ v : BitVec 32, v.toNat ≤ 2047 → (v + b * 2048#32).toNat < 8192 := by
    intro v hv
    rw [BitVec.toNat_add, BitVec.toNat_mul]
    have : (2048#32 : BitVec 32).toNat = 2048 := rfl
    rw [this]
    omega
  have hs : ∀ u : IVec S4096 32, (∀ k, (u k).toNat ≤ 2047) → ∀ i, (shapeCast S1x4096 u shapeCasts_S4096_S1x4096 i).toNat ≤ 2047 := fun u h i => h _
  unfold knnIdx k0_pay11 k0_pay3 k0_pay8 k0_pay7
  change BitVec.toNat (_ + b * 2048#32) < 8192
  refine key _ ?_
  exact three_le 2047 _ _ _ (hs _ (hl _)) (hs _ (hl _)) (hs _ (hl _)) _

end Cert.Proof.Run

end
-- ==== Proof.Keep.lean ====
/-
  What each stretch of @main leaves alone: a buffer that the stretch does not write holds after it what it held before it.
  The arguments are written by none, and the row numbers that the gather reads are in range.
-/
module

public import proofs.«01_k».proof.Proof.Main
public import proofs.«01_k».proof.Proof.Least
public import Idealize.ShloMosaic.Lib.Pipeline.ValueKit

@[expose] public section

noncomputable section

namespace Cert.Proof.Run

open Cert.KernelIdeal Cert.KernelIdeal.Gen
open Idealize.ShloMosaic Idealize.ShloMosaic.TcCoe
open Idealize.ShloMosaic.Pipeline Idealize.ShloMosaic.StableHlo
open Idealize.SL.Sem

variable {F : FTy → Type} [FloatOps F] [∀ e, Nonempty (Elt F e)] (m : (ℓ : Loc nD τ sig) → Buf (Elt F) ℓ) (d : Dev nD)

/-! ## What the host operations write -/

def WA : List (Ref sig .tc) := [main_v1, main_v2, main_v3]
def WB : List (Ref sig .tc) := [main_v5, main_v6, main_v7, main_v8]
def WC : List (Ref sig .tc) := [main_v10, main_v11, main_cst, main_v12, main_v13, main_v14, main_v15, main_cst_0, main_v16, main_v17, main_v18, main_v19, main_cst_1,
  main_v20, main_v21, main_v22, main_v23, main_v24, main_v25, main_v26, main_v27, main_v28]
def WD : List (Ref sig .tc) := [main_v30, main_v31, main_cst_2, main_v32, main_v33, main_v34, main_v35, main_cst_3, main_v36, main_v37, main_v38, main_v39, main_cst_4,
  main_v40, main_v41, main_v42, main_v43, main_v44, main_v45, main_v46, main_v47, main_v48]
def WE₁ : List (Ref sig .tc) := [main_v50, main_v51, main_cst_5, main_v52]
def WE₂ : List (Ref sig .tc) := [main_v53, main_v54, main_v55, main_cst_6, main_v56, main_v57, main_v58, main_v59, main_cst_7, main_v60, main_v61, main_v62, main_v63,
  main_v64, main_v65, main_v66, main_v67]

/-- The arrays that a region's windows write back. -/
def outs {Λ : Labels} (cfg : Pipeline.Cfg sig Λ) : List (Ref sig .tc) := ((List.finRange cfg.W).filter fun w => (cfg.win w).isOut).map (arrRef cfg.spec)

theorem keepR (cfg : Pipeline.Cfg sig Λ₀) (hinj : Function.Injective (arrRef cfg.spec)) (n : ℕ) (W : Vl F)
    (after : (w : Fin cfg.W) → Fin cfg.N → (cfg.win w).block.Idx → Elt F (cfg.win w).elt) (r : Ref sig .tc) (h : r ∉ outs cfg) :
    afterRegion (mkDat cfg d n W after) W (Proc.devRef .tc r) = W (Proc.devRef .tc r) :=
  afterRegion_keeps _ _ hinj (fun _ => rfl) r fun w e => by
    by_contra hw
    exact h (List.mem_map.mpr ⟨w, List.mem_filter.mpr ⟨List.mem_finRange w, by simpa using hw⟩, e⟩)

theorem keep₁ (r : Ref sig .tc) (h : r ∉ outs cfg0) : V₁ m d (Proc.devRef .tc r) = V₀ m d (Proc.devRef .tc r) := keepR d cfg0 launch0.win.arr_inj _ _ _ r h
theorem keep₂ (r : Ref sig .tc) (h : r ∉ WA) : V₂ m d (Proc.devRef .tc r) = V₁ m d (Proc.devRef .tc r) :=
  after_of_writes_sub hostA _ (forall_writes_sub_of_map rfl) h
theorem keep₃ (r : Ref sig .tc) (h : r ≠ main_v4) : V₃ m d (Proc.devRef .tc r) = V₂ m d (Proc.devRef .tc r) :=
  Function.update_of_ne (devRef_ne_of_ne h) _ _
theorem keep₄ (r : Ref sig .tc) (h : r ∉ WB) : V₄ m d (Proc.devRef .tc r) = V₃ m d (Proc.devRef .tc r) :=
  after_of_writes_sub hostB _ (forall_writes_sub_of_map rfl) h
theorem keep₅ (r : Ref sig .tc) (h : r ∉ outs cfg2) : V₅ m d (Proc.devRef .tc r) = V₄ m d (Proc.devRef .tc r) := keepR d cfg2 launch2.win.arr_inj _ _ _ r h
theorem keep₆ (r : Ref sig .tc) (h : r ∉ WC) : V₆ m d (Proc.devRef .tc r) = V₅ m d (Proc.devRef .tc r) :=
  after_of_writes_sub hostC _ (forall_writes_sub_of_map rfl) h
theorem keep₇ (r : Ref sig .tc) (h : r ∉ outs cfg3) : V₇ m d (Proc.devRef .tc r) = V₆ m d (Proc.devRef .tc r) := keepR d cfg3 launch3.win.arr_inj _ _ _ r h
theorem keep₈ (r : Ref sig .tc) (h : r ∉ WD) : V₈ m d (Proc.devRef .tc r) = V₇ m d (Proc.devRef .tc r) :=
  after_of_writes_sub hostD _ (forall_writes_sub_of_map rfl) h
theorem keep₉ (r : Ref sig .tc) (h : r ∉ outs cfg4) : V₉ m d (Proc.devRef .tc r) = V₈ m d (Proc.devRef .tc r) := keepR d cfg4 launch4.win.arr_inj _ _ _ r h
theorem keep₁₀ (r : Ref sig .tc) (h₁ : r ∉ WE₁) (h₂ : r ∉ WE₂) : V₁₀ m d (Proc.devRef .tc r) = V₉ m d (Proc.devRef .tc r) :=
  (after_of_writes_sub hostE₂ _ (forall_writes_sub_of_map rfl) h₂).trans (after_of_writes_sub hostE₁ _ (forall_writes_sub_of_map rfl) h₁)
theorem keep₁₁ (r : Ref sig .tc) (h : r ∉ outs cfg5) : V₁₁ m d (Proc.devRef .tc r) = V₁₀ m d (Proc.devRef .tc r) := keepR d cfg5 launch5.win.arr_inj _ _ _ r h

/-! ## The arguments -/

def args : List (Ref sig .tc) := [main_arg0, main_arg1, main_arg2, main_arg3, main_arg4, main_arg5, main_arg6, main_arg7, main_arg8, main_arg9, main_arg10, main_arg11,
  main_arg12, main_arg13, main_arg14, main_arg15]

/-- No argument is written: each holds at every stage what it held at the start. -/
theorem arg_at (r : Ref sig .tc) (h : r ∈ args) :
    V₁ m d (Proc.devRef .tc r) = V₀ m d (Proc.devRef .tc r) ∧ V₃ m d (Proc.devRef .tc r) = V₀ m d (Proc.devRef .tc r)
      ∧ V₅ m d (Proc.devRef .tc r) = V₀ m d (Proc.devRef .tc r) ∧ V₇ m d (Proc.devRef .tc r) = V₀ m d (Proc.devRef .tc r)
      ∧ V₉ m d (Proc.devRef .tc r) = V₀ m d (Proc.devRef .tc r) ∧ V₁₁ m d (Proc.devRef .tc r) = V₀ m d (Proc.devRef .tc r) := by
  have n0 : ∀ r ∈ args, r ∉ outs cfg0 ∧ r ∉ outs cfg2 ∧ r ∉ outs cfg3 ∧ r ∉ outs cfg4 ∧ r ∉ outs cfg5 := by decide
  have n1 : ∀ r ∈ args, r ∉ WA ∧ r ≠ main_v4 ∧ r ∉ WB ∧ r ∉ WC ∧ r ∉ WD ∧ r ∉ WE₁ ∧ r ∉ WE₂ := by decide
  obtain ⟨a0, a2, a3, a4, a5⟩ := n0 r h
  obtain ⟨b1, b2, b3, b4, b5, b6, b7⟩ := n1 r h
  have e1 := keep₁ m d r a0
  have e3 := (keep₃ m d r b2).trans ((keep₂ m d r b1).trans e1)
  have e5 := (keep₅ m d r a2).trans ((keep₄ m d r b3).trans e3)
  have e7 := (keep₇ m d r a3).trans ((keep₆ m d r b4).trans e5)
  have e9 := (keep₉ m d r a4).trans ((keep₈ m d r b5).trans e7)
  exact ⟨e1, e3, e5, e7, e9, (keep₁₁ m d r a5).trans ((keep₁₀ m d r b6 b7).trans e9)⟩

/-! ## The row numbers -/

/-- The array of a region's window after the region: the blocks that the points wrote back. -/
theorem region_arr (cfg : Pipeline.Cfg sig Λ₀) (hinj : Function.Injective (arrRef cfg.spec)) (n : ℕ) (W : Vl F)
    (after : (w : Fin cfg.W) → Fin cfg.N → (cfg.win w).block.Idx → Elt F (cfg.win w).elt) (w : Fin cfg.W) :
    afterRegion (mkDat cfg d n W after) W (Proc.devRef .tc (arrRef cfg.spec w)) = (mkDat cfg d n W after).arrAt w cfg.N :=
  afterRegion_arr _ _ hinj w

/-- A batch number is below four. -/
theorem batch_lt (t : Fin grid0.N) : (BitVec.ofNat 32 (grid0.coords t 0).val).toNat < 4 := by
  revert t; decide +kernel

/-- The row numbers that the gather reads are those of its table. -/
theorem in_range : InRange m := by
  intro d j
  have e : V₂ m d (Proc.devRef .tc main_v3) = shapeCast S98304 (V₁ m d (Proc.devRef .tc main_v0_0)) shapeCasts_S4x3x8192_S98304 := by
    unfold V₂ hostA
    after_results
    rfl
  rw [e]
  show (V₁ m d (Proc.devRef .tc main_v0_0) (Shape.reshapeEquiv shapeCasts_S4x3x8192_S98304 j) : BitVec 32).toNat < 8192
  have e1 : V₁ m d (Proc.devRef .tc main_v0_0) = _ := region_arr d cfg0 launch0.win.arr_inj 0 (V₀ m d) (after0 (V₀ m d)) 2
  rw [e1]
  refine Dat.arrAt_forall_of_covers (mkDat cfg0 d 0 (V₀ m d) (after0 (V₀ m d))) 2 (fun _ v => (show BitVec 32 from v).toNat < 8192) (by decide +kernel) (fun t _ y => ?_) _
  exact knnIdx_lt _ (batch_lt t) _ _ _

end Cert.Proof.Run

end
-- ==== Proof.Frames.lean ====
/-
  The frames: every run of the kernel, over words and over the extended reals, and of the reference ends, changes no argument and
  leaves no semaphore held.
-/
module

public import proofs.«01_k».proof.Defs
public import proofs.«01_k».proof.Proof.Keep
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.ShloMosaic.Pipeline Idealize.ShloMosaic.StableHlo Idealize.SL.Sem Cert.Proof.Run

section

open Cert.KernelIdeal

variable {F : FTy → Type} [FloatOps F] [∀ e, Nonempty (Elt F e)] (m : (ℓ : Loc nD τ sig) → Buf (Elt F) ℓ) (g : Dev nD → PrngReg)

/-- An argument holds after the run what it held before. -/
theorem arg_kept {r : PUnit × MemSt nD τ sig (Elt F)} (h : QC m r) (d : Dev nD) (a : Ref sig .tc) (ha : a ∈ args) (hu : Proc.devRef .tc a ∈ ucRefs τ sig) :
    r.2.mem ((d.tc : Thread nD τ).loc a) = m ((d.tc : Thread nD τ).loc a) :=
  (h.1 d _ hu).trans (arg_at m d a ha).2.2.2.2.2

/-- Every argument at once. -/
theorem args_kept {r : PUnit × MemSt nD τ sig (Elt F)} (h : QC m r) (d : Dev nD) (a : Ref sig .tc) (ha : a ∈ args) :
    r.2.mem ((d.tc : Thread nD τ).loc a) = m ((d.tc : Thread nD τ).loc a) :=
  arg_kept m h d a ha ((by decide : ∀ a ∈ args, Proc.devRef .tc a ∈ ucRefs τ sig) a ha)

end

section

variable {F : FTy → Type} [FloatOps F] [∀ e, Nonempty (Elt F e)]

/-- The kernel's run: the result is what the last call left, the arguments are kept and no semaphore is held. -/
theorem run_kernel (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (Cert.KernelIdeal.threads (F := F)) ⟨m, fun _ => 0, g⟩ (QC m) :=
  run_main m g (in_range m)

end

/-- What a frame says of the program whose bodies are `D`, over any model of the floats. -/
def KeptBy (F : FTy → Type) [FloatOps F] (D : Defs Cert.KernelIdeal.nD Cert.KernelIdeal.τ Cert.KernelIdeal.sig (Elt F) Cert.KernelIdeal.Λ₀) : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.sc.defs (Pipeline.defs Cert.KernelIdeal.pcfgs D)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) ∧ r.2.sem = fun _ => 0)

theorem kept (F : FTy → Type) [FloatOps F] [∀ e, Nonempty (Elt F e)] : KeptBy F Cert.KernelIdeal.defs₀ := by
  intro m g _
  refine (θ_run (Cert.KernelIdeal.defs (F := F)) (Cert.KernelIdeal.threads (F := F)) ⟨m, fun _ => 0, g⟩).mono ?_ (run_kernel (F := F) m g)
  intro r h
  refine ⟨fun c => ?_, h.2⟩
  refine ⟨?_, ?_, ?_, ?_, ?_, ?_, ?_, ?_, ?_, ?_, ?_, ?_, ?_, ?_, ?_, ?_⟩ <;> exact args_kept m h c _ (by decide)

/-- The bodies of the kernel as it is printed, in the names of its reading over the extended reals. -/
def bodies : Defs Cert.KernelIdeal.nD Cert.KernelIdeal.τ Cert.KernelIdeal.sig (Elt Bits) Cert.KernelIdeal.Λ₀ := Cert.Kernel.defs₀ (F := Bits)

theorem bodies_tc : ∀ l : Fin 6, (fun a => bodies .tc l a) = fun a => Cert.KernelIdeal.defs₀ (F := Bits) .tc l a
  | 0 | 1 | 2 | 3 | 4 | 5 => by eq_refl
theorem bodies_ss : ∀ l : Fin 6, (fun c a => bodies (.scScalar c) l a) = fun c a => Cert.KernelIdeal.defs₀ (F := Bits) (.scScalar c) l a
  | 0 | 1 | 2 | 3 | 4 | 5 => by eq_refl
theorem bodies_sv : ∀ l : Fin 6, (fun c s a => bodies (.scVector c s) l a) = fun c s a => Cert.KernelIdeal.defs₀ (F := Bits) (.scVector c s) l a
  | 0 | 1 | 2 | 3 | 4 | 5 => by eq_refl

set_option maxHeartbeats 8000000 in
/-- The kernel as it is printed and its reading over the extended reals are one text. -/
theorem kept_eq : Cert.quiescent_Kernel = KeptBy Bits bodies := by eq_refl

theorem bodies_eq : bodies = Cert.KernelIdeal.defs₀ (F := Bits) := by
  funext p l a
  match p with
  | .tc => exact congrFun (bodies_tc l) a
  | .scScalar c => exact congrFun (congrFun (bodies_ss l) c) a
  | .scVector c s => exact congrFun (congrFun (congrFun (bodies_sv l) c) s) a

theorem frame_kernel : Cert.quiescent_Kernel := kept_eq.mpr (bodies_eq ▸ kept Bits)

theorem frame_ideal : Cert.quiescent_KernelIdeal := kept Ideal

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Norm.lean ====
/-
  Normalising a channel over its points, two ways, over the real numbers: from the sum and the sum of squares, folded into a factor and an
  offset; and from the mean and the mean of the squared differences.
-/
module

public import Idealize.ShloMosaic.PureOps.Ideal
public import Idealize.ShloMosaic.PureOps.Ideal.Laws

@[expose] public section

noncomputable section

namespace Cert.Proof.Norm

open Idealize.ShloMosaic
open scoped BigOperators

/-- A value that is a real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.max {x y : EReal} (hx : IsReal x) (hy : IsReal y) : IsReal (max x y) := by
  rcases max_choice x y with e | e <;> rw [e] <;> assumption
theorem IsReal.zero : IsReal 0 := ⟨0, rfl⟩
theorem IsReal.one : IsReal 1 := ⟨1, rfl⟩

theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A quotient of real numbers by one above zero. -/
theorem div_coe {a b : ℝ} (hb : 0 < b) : Ideal.div (a : EReal) (b : EReal) = ((a / b : ℝ) : EReal) := by
  rw [Ideal.div_coe hb.ne', ← EReal.coe_mul, mul_one_div]

/-- The number of points. -/
theorem count : Ideal.ofBits FTy.f32 0x47000000#32 = ((32768 : ℝ) : EReal) := by
  simp [Ideal.ofBits, Ideal.ieee, -EReal.coe_mul]; norm_num

/-- The constant that keeps the variance off zero. -/
theorem eps : ∃ e : ℝ, 0 < e ∧ Ideal.ofBits FTy.f32 0x3727C5AC#32 = (e : EReal) := by
  refine ⟨_, ?_, by simp [Ideal.ofBits, Ideal.ieee, -EReal.coe_mul]; rfl⟩
  norm_num

/-- The constant that keeps a distance off zero. -/
theorem eps' : ∃ e : ℝ, 0 < e ∧ Ideal.ofBits FTy.f32 0x322BCC77#32 = (e : EReal) := by
  refine ⟨_, ?_, by simp [Ideal.ofBits, Ideal.ieee, -EReal.coe_mul]; rfl⟩
  norm_num

theorem neg_two : Ideal.ofBits FTy.f32 0xC0000000#32 = ((-2 : ℝ) : EReal) := by
  simp [Ideal.ofBits, Ideal.ieee, -EReal.coe_mul]; norm_num

/-! ## The two ways -/

/-- The factor, from a channel's sum and sum of squares. -/
def factor (s₁ s₂ g : EReal) : EReal :=
  Ideal.div g (Ideal.sqrt (Ideal.div s₂ (Ideal.ofBits FTy.f32 0x47000000#32)
    - Ideal.div s₁ (Ideal.ofBits FTy.f32 0x47000000#32) * Ideal.div s₁ (Ideal.ofBits FTy.f32 0x47000000#32) + Ideal.ofBits FTy.f32 0x3727C5AC#32))

/-- The offset. -/
def offset (s₁ s₂ g b : EReal) : EReal := b - Ideal.div s₁ (Ideal.ofBits FTy.f32 0x47000000#32) * factor s₁ s₂ g

/-- The mean of a channel. -/
def mean {ι : Type} [Fintype ι] (y : ι → EReal) : EReal := Ideal.div (∑ p, y p) (Ideal.ofBits FTy.f32 0x47000000#32)

/-- The normalised value at a point. -/
def norm {ι : Type} [Fintype ι] (y : ι → EReal) (g b : EReal) (p : ι) : EReal :=
  Ideal.div (g * (y p - mean y)) (Ideal.sqrt (Ideal.div (∑ q, (y q - mean y) * (y q - mean y)) (Ideal.ofBits FTy.f32 0x47000000#32) + Ideal.ofBits FTy.f32 0x3727C5AC#32)) + b

/-- The mean of the squares less the square of the mean is the mean of the squared differences. -/
theorem variance {ι : Type} [Fintype ι] (hc : (Fintype.card ι : ℝ) = 32768) (r : ι → ℝ) :
    (∑ p, r p * r p) / 32768 - (∑ p, r p) / 32768 * ((∑ p, r p) / 32768) = (∑ p, (r p - (∑ p, r p) / 32768) * (r p - (∑ p, r p) / 32768)) / 32768 := by
  set m : ℝ := (∑ p, r p) / 32768 with hm
  have hs : ∑ p, r p = 32768 * m := by rw [hm]; ring
  have : ∀ p, (r p - m) * (r p - m) = r p * r p - 2 * m * r p + m * m := fun p => by ring
  rw [Finset.sum_congr rfl fun p _ => this p, Finset.sum_add_distrib, Finset.sum_sub_distrib, ← Finset.mul_sum, hs, Finset.sum_const, Finset.card_univ, nsmul_eq_mul, hc]
  ring

/-- Both ways give one value, where the channel and its factor are real. -/
theorem two_ways {ι : Type} [Fintype ι] (hc : (Fintype.card ι : ℝ) = 32768) (y : ι → EReal) (hy : ∀ p, IsReal (y p)) {g : EReal} (hg : IsReal g) (b : EReal) (p : ι) :
    y p * factor (∑ q, y q) (∑ q, y q * y q) g + offset (∑ q, y q) (∑ q, y q * y q) g b = norm y g b p
      ∧ (IsReal b → IsReal (norm y g b p)) := by
  choose r hr using hy
  obtain ⟨γ, rfl⟩ := hg
  obtain ⟨e, he, hE⟩ := eps
  obtain rfl : y = fun p => (r p : EReal) := funext hr
  set m : ℝ := (∑ p, r p) / 32768 with hm
  have s1 : Ideal.div (∑ q, (r q : EReal)) (Ideal.ofBits FTy.f32 0x47000000#32) = (m : EReal) := by
    rw [count, ← coe_sum, div_coe (by norm_num)]
  have s2 : Ideal.div (∑ q, (r q : EReal) * (r q : EReal)) (Ideal.ofBits FTy.f32 0x47000000#32) = (((∑ q, r q * r q) / 32768 : ℝ) : EReal) := by
    simp only [← EReal.coe_mul]
    rw [count, ← coe_sum, div_coe (by norm_num)]
  set v : ℝ := (∑ p, (r p - m) * (r p - m)) / 32768 with hv
  have hv0 : 0 ≤ v := div_nonneg (Finset.sum_nonneg fun p _ => mul_self_nonneg _) (by norm_num)
  have hpos : 0 < Real.sqrt (v + e) := Real.sqrt_pos.mpr (by linarith)
  have hsq : Ideal.sqrt ((v : EReal) + (e : EReal)) = ((Real.sqrt (v + e) : ℝ) : EReal) := by
    rw [← EReal.coe_add, Ideal.sqrt_coe, if_neg (by linarith)]
  have hf : factor (∑ q, (r q : EReal)) (∑ q, (r q : EReal) * (r q : EReal)) (γ : EReal) = ((γ / Real.sqrt (v + e) : ℝ) : EReal) := by
    unfold factor
    rw [s1, s2, hE, ← EReal.coe_mul, ← EReal.coe_sub, variance hc r, hsq, div_coe hpos]
  have hmean : mean (fun p => (r p : EReal)) = (m : EReal) := s1
  have hvar : Ideal.div (∑ q, ((r q : EReal) - (m : EReal)) * ((r q : EReal) - (m : EReal))) (Ideal.ofBits FTy.f32 0x47000000#32) = (v : EReal) := by
    simp only [← EReal.coe_sub, ← EReal.coe_mul]
    rw [count, ← coe_sum, div_coe (by norm_num)]
  have hn : norm (fun p => (r p : EReal)) (γ : EReal) b p = ((γ * (r p - m) / Real.sqrt (v + e) : ℝ) : EReal) + b := by
    unfold norm
    rw [hmean, hvar, hE, hsq, ← EReal.coe_sub, ← EReal.coe_mul, div_coe hpos]
  rw [hn]
  refine ⟨?_, fun ⟨β, hβ⟩ => ⟨_, by rw [hβ, ← EReal.coe_add]⟩⟩
  unfold offset
  rw [hf, s1, ← EReal.coe_mul, ← EReal.coe_mul, sub_eq_add_neg, add_left_comm, ← EReal.coe_neg, ← EReal.coe_add, add_comm]
  congr 2
  ring

end Cert.Proof.Norm

end

end
-- ==== Proof.Nearest.lean ====
/-
  The three nearest rows of a list of distances. Taking the first least entry, hiding it and repeating finds the same positions, in the
  same order, as sorting the whole list stably and keeping the first three.
-/
module

public import Idealize.ShloMosaic.Lib.SortPrefix
public import proofs.«01_k».proof.Proof.Least
public import Mathlib.Data.EReal.Basic

@[expose] public section

noncomputable section

namespace Cert.Proof.Nearest

open Idealize.ShloMosaic

variable {n : ℕ}

/-- `i` is the first position of the least entry of `d`. -/
def First (d : Fin n → EReal) (i : Fin n) : Prop := (∀ s, d i ≤ d s) ∧ ∀ s, s < i → d i < d s

/-- The list with one entry hidden. -/
def hide (d : Fin n → EReal) (i : Fin n) : Fin n → EReal := fun s => if s = i then ⊤ else d s

theorem First.unique {d : Fin n → EReal} {i j : Fin n} (hi : First d i) (hj : First d j) : i = j := by
  rcases lt_trichotomy i j with h | h | h
  · exact absurd (hi.1 j) (not_le.mpr (hj.2 i h))
  · exact h
  · exact absurd (hj.1 i) (not_le.mpr (hi.2 j h))

/-- An entry other than the hidden one is what is found next, since every entry is below the value that hides. -/
theorem First.ne_hidden {d : Fin n → EReal} {i j s : Fin n} (h : First (hide d i) j) (hs : s ≠ i) (hd : d s < ⊤) : j ≠ i := by
  intro e
  have := h.1 s
  simp only [hide, e, if_true, if_neg hs] at this
  exact absurd hd (not_lt.mpr this)

/-- Earlier in the order of the entries, ties by position. -/
def before (d : Fin n → EReal) : Fin n → Fin n → Bool := fun k k' => decide (d k < d k') || (decide (d k = d k') && decide (k < k'))

theorem before_total (d : Fin n → EReal) : StrictTotalBefore (before d) where
  irrefl a := by simp [before]
  trans a b c h h' := by
    simp only [before, Bool.or_eq_true, Bool.and_eq_true, decide_eq_true_eq] at *
    rcases h with h | ⟨h, k⟩ <;> rcases h' with h' | ⟨h', k'⟩
    · exact .inl (h.trans h')
    · exact .inl (h' ▸ h)
    · exact .inl (h ▸ h')
    · exact .inr ⟨h.trans h', k.trans k'⟩
  total a b h := by
    simp only [before, Bool.or_eq_true, Bool.and_eq_true, decide_eq_true_eq]
    rcases lt_trichotomy (d a) (d b) with k | k | k
    · exact .inl (.inl k)
    · rcases lt_or_gt_of_ne h with e | e
      · exact .inl (.inr ⟨k, e⟩)
      · exact .inr (.inr ⟨k.symm, e⟩)
    · exact .inr (.inl k)

/-- On positions listed in increasing order a stable sort by the entries is the sort by entry and then position. -/
theorem stable_eq (d : Fin n → EReal) (l : List (Fin n)) (hl : l.Pairwise (· < ·)) :
    stableSort (fun k k' => decide (d k < d k')) l = stableSort (before d) l := by
  induction l with
  | nil => rfl
  | cons a l ih =>
    rw [List.pairwise_cons] at hl
    unfold stableSort
    rw [ih hl.2]
    refine insertBefore_congr _ _ a _ fun b hb => ?_
    have hab := hl.1 b ((perm_stableSort (before d) l).mem_iff.mp hb)
    simp [before, hab.le]

theorem sortedFrom_eq (d : Fin n → EReal) : sortedFrom (fun k k' => decide (d k < d k')) = sortedFrom (before d) := by
  funext k
  have h : sortPositions n (fun k k' => decide (d k < d k')) = sortPositions n (before d) := stable_eq d _ (List.pairwise_lt_finRange n)
  unfold sortedFrom
  rw [List.get_of_eq h]
  rfl

/-- Nothing not before the first least entry among those left. -/
theorem First.before {d e : Fin n → EReal} {i p : Fin n} (h : First e i) (hi : e i = d i) (hp : e p = d p) : before d p i = false := by
  have h1 := h.1 p
  have h2 := h.2 p
  rw [hi, hp] at h1 h2
  have h3 : d p = d i → ¬ p < i := fun e' hlt => absurd (h2 hlt) (by rw [e']; exact lt_irrefl _)
  simp only [Nearest.before, Bool.or_eq_false_iff, Bool.and_eq_false_iff, decide_eq_false_iff_not]
  refine ⟨not_lt.mpr h1, ?_⟩
  by_cases e' : d p = d i
  · exact .inr (h3 e')
  · exact .inl e'

/-- The sort's first three positions are the three found one after another. -/
theorem sorted_three (hn : 3 ≤ n) (d : Fin n → EReal) (hd : ∀ s, d s < ⊤) {i₀ i₁ i₂ : Fin n} (h₀ : First d i₀) (h₁ : First (hide d i₀) i₁)
    (h₂ : First (hide (hide d i₀) i₁) i₂) :
    (i₁ ≠ i₀ ∧ i₂ ≠ i₀ ∧ i₂ ≠ i₁) ∧ ∀ k : Fin 3, sortedFrom (fun k k' => decide (d k < d k')) (k.castLE hn) = (![i₀, i₁, i₂] : Fin 3 → Fin n) k := by
  have ex : ∀ a b : Fin n, ∃ s, s ≠ a ∧ s ≠ b := by
    intro a b
    by_contra hc
    push Not at hc
    have h3 := fun s => (not_or_of_imp (hc s))
    have x0 := h3 ⟨0, by omega⟩
    have x1 := h3 ⟨1, by omega⟩
    have x2 := h3 ⟨2, by omega⟩
    simp only [not_not, Fin.ext_iff] at x0 x1 x2
    omega
  obtain ⟨s, hs, -⟩ := ex i₀ i₀
  have n10 : i₁ ≠ i₀ := h₁.ne_hidden hs (hd s)
  obtain ⟨s, hs, hs'⟩ := ex i₀ i₁
  have hlt : hide d i₀ s < ⊤ := by simp only [hide, if_neg hs]; exact hd s
  have n21 : i₂ ≠ i₁ := h₂.ne_hidden hs' hlt
  have n20 : i₂ ≠ i₀ := by
    intro e
    have h := h₂.1 s
    rw [e] at h
    simp only [hide, if_neg hs, if_neg hs', if_neg n10.symm, if_true] at h
    exact absurd (hd s) (not_lt.mpr h)
  have v1 : ∀ p, p ≠ i₀ → hide d i₀ p = d p := fun p hp => by simp [hide, hp]
  have v2 : ∀ p, p ≠ i₀ → p ≠ i₁ → hide (hide d i₀) i₁ p = d p := fun p hp hq => by simp [hide, hp, hq]
  refine ⟨⟨n10, n20, n21⟩, fun k => ?_⟩
  rw [sortedFrom_eq]
  refine (before_total d).sortedFrom_eq_of_prefix hn ![i₀, i₁, i₂] ?_ ?_ ?_ k
  · intro a b h
    fin_cases a <;> fin_cases b <;> first | rfl | (exfalso; simp_all [eq_comm])
  · intro a b h
    fin_cases a <;> fin_cases b <;> first | (exact absurd h (by decide)) | skip
    · exact h₀.before rfl rfl
    · exact h₀.before rfl rfl
    · exact h₁.before (v1 _ n10) (v1 _ n20)
  · intro a p hp
    have p0 : p ≠ i₀ := fun e => hp 0 e.symm
    have p1 : p ≠ i₁ := fun e => hp 1 e.symm
    fin_cases a
    · exact h₀.before rfl rfl
    · exact h₁.before (v1 _ n10) (v1 _ p0)
    · exact h₂.before (v2 _ n20 n21) (v2 _ p0 p1)

/-- The least of the positions that hold the least entry, found by a minimum over words where every other position stands as the last
position's number. -/
theorem first_of_words (d : Fin 2048 → EReal) (m : EReal) (hm : m = Finset.univ.inf d) (f : Fin 2048 → BitVec 32)
    (hf : ∀ s, f s = if d s = m then BitVec.ofNat 32 s.val else 2047#32) :
    (Finset.univ.fold IntOp.minsi (2147483647#32) f).toNat < 2048 ∧
      First d (Fin.ofNat 2048 (Finset.univ.fold IntOp.minsi (2147483647#32) f).toNat) ∧ m = d (Fin.ofNat 2048 (Finset.univ.fold IntOp.minsi (2147483647#32) f).toNat) := by
  have nat : ∀ s, (f s).toNat = if d s = m then s.val else 2047 := by
    intro s
    have := s.isLt
    rw [hf]
    split
    · rw [BitVec.toNat_ofNat, Nat.mod_eq_of_lt (by omega)]
    · rfl
  have bnd : ∀ s ∈ (Finset.univ : Finset (Fin 2048)), (f s).toNat < 2 ^ 31 := by
    intro s _
    have := s.isLt
    rw [nat]
    split <;> omega
  obtain ⟨-, hle, hex⟩ := Run.minsi_fold Finset.univ f bnd
  obtain ⟨i, -, hi⟩ := hex ⟨0, Finset.mem_univ _⟩
  obtain ⟨s₀, -, hs₀⟩ := Finset.exists_mem_eq_inf Finset.univ ⟨(0 : Fin 2048), Finset.mem_univ _⟩ d
  generalize (Finset.univ.fold IntOp.minsi (2147483647#32) f).toNat = r at *
  have hr : r < 2048 := by
    have := i.isLt
    rw [hi, nat]
    split <;> omega
  have hle' : ∀ s, d s = m → r ≤ s.val := by
    intro s hs
    have := hle s (Finset.mem_univ _)
    rwa [nat, if_pos hs] at this
  have hv : (Fin.ofNat 2048 r) = ⟨r, hr⟩ := Fin.ext (Nat.mod_eq_of_lt hr)
  have hdm : d ⟨r, hr⟩ = m := by
    rw [nat] at hi
    split at hi
    · rename_i h
      have : i = ⟨r, hr⟩ := Fin.ext hi.symm
      rw [← this, h]
    · have h0 := hle' s₀ (by rw [hm, hs₀])
      have := s₀.isLt
      have : s₀ = ⟨r, hr⟩ := Fin.ext (by show s₀.val = r; omega)
      rw [← this, hm, hs₀]
  rw [hv]
  refine ⟨hr, ⟨fun s => ?_, fun s hs => ?_⟩, hdm.symm⟩
  · rw [hdm, hm]
    exact Finset.inf_le (Finset.mem_univ s)
  · rw [hdm]
    refine lt_of_le_of_ne (by rw [hm]; exact Finset.inf_le (Finset.mem_univ s)) fun e => ?_
    exact absurd (hle' s e.symm) (not_le.mpr hs)

end Cert.Proof.Nearest

end

end
-- ==== Proof.Pay.lean ====
/-
  What the calls' bodies compute, entry by entry, over the extended reals.
-/
module

public import proofs.«01_k».proof.Proof.Bodies
public import proofs.«01_k».proof.Proof.Nearest
public import Idealize.ShloMosaic.Lib.Pointwise
public import Idealize.ShloMosaic.Lib.Tactic.CleanTypes

@[expose] public section

set_option maxRecDepth 16384

noncomputable section

namespace Cert.Proof.Pay

open Cert.KernelIdeal Cert.KernelIdeal.Gen Cert.Proof.Run
open Idealize.ShloMosaic
open scoped BigOperators

theorem mlp (y : Vec Ideal S1x128x4096 .f32) (s t : Vec Ideal S128x1 .f32) (w : Vec Ideal S128x128 .f32) (b : Vec Ideal S128x1 .f32) (c : Fin 128) (l : Fin 4096) :
    k3_pay2 y s t w b (ix2 c l) = (∑ i : Fin 128, w (ix2 c i) * max (y (ix3 0 i l) * s (ix2 i 0) + t (ix2 i 0)) 0) + b (ix2 c 0) := by
  pointwise [k3_pay2]

theorem fuse (g : Vec Ideal S1x3x4096x128 .f32) (w : Vec Ideal S1x3x4096 .f32) (a : Vec Ideal S128x64 .f32) (p : Vec Ideal S1x64x4096 .f32)
    (b : Vec Ideal S128x128 .f32) (o : Vec Ideal S128x1 .f32) (c : Fin 128) (l : Fin 4096) :
    k2_pay4 g w a p b o (ix2 c l) = ((∑ i : Fin 64, a (ix2 c i) * p (ix3 0 i l)) + ∑ i : Fin 128, b (ix2 c i) * (g (ix4 0 0 l i) * w (ix3 0 0 l) + g (ix4 0 1 l i) * w (ix3 0 1 l) + g (ix4 0 2 l i) * w (ix3 0 2 l))) + o (ix2 c 0) := by
  pointwise [k2_pay4]

theorem resid (y : Vec Ideal S1x128x4096 .f32) (s t : Vec Ideal S128x1 .f32) (z : Vec Ideal S1x128x4096 .f32) (s' t' : Vec Ideal S128x1 .f32) (c : Fin 128) (l : Fin 4096) :
    k5_pay1 y s t z s' t' (ix3 0 c l) = max (z (ix3 0 c l) * s' (ix2 c 0) + t' (ix2 c 0) + max (y (ix3 0 c l) * s (ix2 c 0) + t (ix2 c 0)) 0) 0 := by
  pointwise [k5_pay1]

theorem stats0 (y : Vec Ideal S128x4096 .f32) (s : Vec Ideal S2x128 .f32) (c : Fin 128) :
    k2_pay3 y s (ix2 0 c) = s (ix2 0 c) + ∑ l : Fin 4096, y (ix2 c l) := by
  pointwise [k2_pay3]

theorem stats1 (y : Vec Ideal S128x4096 .f32) (s : Vec Ideal S2x128 .f32) (c : Fin 128) :
    k2_pay3 y s (ix2 1 c) = s (ix2 1 c) + ∑ l : Fin 4096, y (ix2 c l) * y (ix2 c l) := by
  pointwise [k2_pay3]

theorem layer_out (y : FVec Ideal S128x4096 .f32) (c : Fin 128) (l : Fin 4096) : k2_pay1 (F := Ideal) y (ix3 0 c l) = y (ix2 c l) := by
  pointwise [k2_pay1]

theorem stats_start (i : Fin 2) (c : Fin 128) : k2_pay2 (F := Ideal) (ix2 i c) = 0 := by
  pointwise [k2_pay2]

/-- The distances between a block's points and its batch's rows. -/
def D (x : Vec Ideal S1x4096x3 .f32) (y : Vec Ideal S1x2048x3 .f32) (l : Fin 4096) (s : Fin 2048) : EReal :=
  Ideal.ofBits FTy.f32 0xC0000000#32 * (∑ e : Fin 3, x (ix3 0 l e) * y (ix3 0 s e)) + (∑ e : Fin 3, x (ix3 0 l e) * x (ix3 0 l e)) + ∑ e : Fin 3, y (ix3 0 s e) * y (ix3 0 s e)

theorem dist (x : Vec Ideal S1x4096x3 .f32) (y : Vec Ideal S1x2048x3 .f32) (l : Fin 4096) (s : Fin 2048) :
    k0_pay1 x y (ix2 l s) = D x y l s := by
  pointwise [k0_pay1, D]

theorem top : Ideal.ofBits FTy.f32 0x7F800000#32 = (⊤ : EReal) := by simp [Ideal.ofBits, Ideal.ieee]

theorem fold_min {ι : Type} (s : Finset ι) (f : ι → EReal) : s.fold min ⊤ f = s.inf f := rfl

theorem ofBits_eq (φ : FTy) (c : BitVec φ.bits) : (FloatOps.ofBits φ c : Ideal φ) = Ideal.ofBits φ c := rfl

theorem least_at (d : FVec Ideal S4096x2048 .f32) (l : Fin 4096) :
    multiReduction .minimumf [1] S4096 d 0x7F800000#32 reduces_S4096x2048_S4096 (.inl rfl) rfl (ix1 l) = Finset.univ.inf fun s => d (ix2 l s) := by
  pointwise
  rw [top, fold_min]

theorem recip_at (m : FVec Ideal S4096 .f32) (a b : Ideal .f32) (l : Fin 4096) :
    divf (broadcast S4096 a) (addf m (broadcast S4096 b)) (ix1 l) = Ideal.div a (m (ix1 l) + b) := rfl

theorem lanes (l : Fin 4096) (s : Fin 2048) : (iota .tc S4096x2048 32 [1] iota_S4096x2048_d1_w32 : IVec S4096x2048 32) (ix2 l s) = BitVec.ofNat 32 s.val := by
  pointwise

/-- A lane's own word where its entry is the row's value, another word elsewhere. -/
theorem pick_at (d : FVec Ideal S4096x2048 .f32) (m : FVec Ideal S4096 .f32) (u : IVec S4096x2048 32) (w : BitVec 32) (l : Fin 4096) (s : Fin 2048) :
    select (cmpf .oeq d (broadcastTo S4096x2048 (shapeCast S4096x1 m shapeCasts_S4096_S4096x1) broadcasts_S4096x1_S4096x2048)) u (broadcast S4096x2048 w) (ix2 l s)
      = (if d (ix2 l s) = m (ix1 l) then u (ix2 l s) else w : BitVec 32) := by
  pointwise

/-- A constant where a lane's word is the row's word, the entry elsewhere. -/
theorem hide_at (d : FVec Ideal S4096x2048 .f32) (v : IVec S4096 32) (u : IVec S4096x2048 32) (w : Ideal .f32) (l : Fin 4096) (s : Fin 2048) :
    select (cmpi .eq u (broadcastTo S4096x2048 (shapeCast S4096x1 v shapeCasts_S4096_S4096x1) broadcasts_S4096x1_S4096x2048)) (broadcast S4096x2048 w) d (ix2 l s)
      = if u (ix2 l s) = v (ix1 l) then w else d (ix2 l s) := by
  have e : broadcastTo S4096x2048 (shapeCast S4096x1 v shapeCasts_S4096_S4096x1) broadcasts_S4096x1_S4096x2048 (ix2 l s) = v (ix1 l) := by pointwise
  show Scalar.select (IntOp.cmpi .eq (u (ix2 l s)) (broadcastTo S4096x2048 (shapeCast S4096x1 v shapeCasts_S4096_S4096x1) broadcasts_S4096x1_S4096x2048 (ix2 l s))) _ _ = _
  rw [e]
  show Scalar.select (IntOp.cmpi .eq (u (ix2 l s)) (v (ix1 l))) w (d (ix2 l s)) = _
  by_cases h : u (ix2 l s) = v (ix1 l)
  · simp [Scalar.select, IntOp.cmpi, h]
  · have : (u (ix2 l s) == v (ix1 l)) = false := by simpa using h
    simp [Scalar.select, IntOp.cmpi, h, this]

theorem words_eq (v : IVec S4096x2048 32) (l : Fin 4096) (f : Fin 2048 → BitVec 32) (h : ∀ s, v (ix2 l s) = f s) :
    multiReductionI .minsi [1] S4096 v 2147483647#32 reduces_S4096x2048_S4096 rfl (ix1 l) = Finset.univ.fold IntOp.minsi (2147483647#32) f := by
  have e : f = fun s => v (ix2 l s) := funext fun s => (h s).symm
  rw [e]
  pointwise

theorem stack_idx (u v w : IVec S4096 32) (b : BitVec 32) (k : Fin 3) (l : Fin 4096) (q : Fin 3 → BitVec 32) (hu : u (ix1 l) = q 0) (hv : v (ix1 l) = q 1) (hw : w (ix1 l) = q 2) :
    shapeCast S1x3x4096 (addi (concatenate S3x4096 0 [⟨S1x4096, shapeCast S1x4096 u shapeCasts_S4096_S1x4096⟩, ⟨S1x4096, shapeCast S1x4096 v shapeCasts_S4096_S1x4096⟩,
      ⟨S1x4096, shapeCast S1x4096 w shapeCasts_S4096_S1x4096⟩] concatenates_S1x4096_S1x4096_S1x4096_S3x4096_d0) (broadcast S3x4096 b)) shapeCasts_S3x4096_S1x3x4096 (ix3 0 k l)
      = IntOp.addi (q k) b := by
  match k with
  | 0 => rw [← hu]; pointwise
  | 1 => rw [← hv]; pointwise
  | 2 => rw [← hw]; pointwise

theorem stack_wt (u v w : FVec Ideal S4096 .f32) (k : Fin 3) (l : Fin 4096) (q : Fin 3 → EReal) (hu : u (ix1 l) = q 0) (hv : v (ix1 l) = q 1) (hw : w (ix1 l) = q 2) :
    shapeCast S1x3x4096 (concatenate S3x4096 0 [⟨S1x4096, shapeCast S1x4096 u shapeCasts_S4096_S1x4096⟩, ⟨S1x4096, shapeCast S1x4096 v shapeCasts_S4096_S1x4096⟩,
      ⟨S1x4096, shapeCast S1x4096 w shapeCasts_S4096_S1x4096⟩] concatenates_S1x4096_S1x4096_S1x4096_S3x4096_d0) shapeCasts_S3x4096_S1x3x4096 (ix3 0 k l)
      = q k := by
  match k with
  | 0 => rw [← hu]; pointwise
  | 1 => rw [← hv]; pointwise
  | 2 => rw [← hw]; pointwise

/-- The position of the `k`-th least entry: the stable sort's. -/
def near (d : Fin 2048 → EReal) (k : Fin 3) : Fin 2048 := sortedFrom (fun i j => decide (d i < d j)) (k.castLE (by decide))

/-- The reciprocal of a distance, kept off zero. -/
def recip (v : EReal) : EReal := Ideal.div 1 (v + Ideal.ofBits FTy.f32 0x322BCC77#32)

theorem word_eq {w : BitVec 32} (hw : w.toNat < 2048) (s : Fin 2048) : BitVec.ofNat 32 s.val = w ↔ s = Fin.ofNat 2048 w.toNat := by
  have hs := s.isLt
  rw [BitVec.toNat_eq, BitVec.toNat_ofNat, Nat.mod_eq_of_lt (by omega), Fin.ext_iff]
  show _ ↔ s.val = w.toNat % 2048
  rw [Nat.mod_eq_of_lt hw]

theorem word_back {w : BitVec 32} (hw : w.toNat < 2048) : w = BitVec.ofNat 32 (Fin.ofNat 2048 w.toNat).val := ((word_eq hw _).mpr rfl).symm

/-- The vector of a row's least entries. -/
abbrev least (d : FVec Ideal S4096x2048 .f32) : FVec Ideal S4096 .f32 :=
  multiReduction .minimumf [1] S4096 d 0x7F800000#32 reduces_S4096x2048_S4096 (.inl rfl) rfl

/-- The lane numbers. -/
abbrev lane : IVec S4096x2048 32 := iota .tc S4096x2048 32 [1] iota_S4096x2048_d1_w32

/-- The first lane of each row that holds the row's given value. -/
abbrev pick (d : FVec Ideal S4096x2048 .f32) (m : FVec Ideal S4096 .f32) : IVec S4096 32 :=
  multiReductionI .minsi [1] S4096 (select (cmpf .oeq d (broadcastTo S4096x2048 (shapeCast S4096x1 m shapeCasts_S4096_S4096x1) broadcasts_S4096x1_S4096x2048))
    lane (broadcast S4096x2048 2047#32)) 2147483647#32 reduces_S4096x2048_S4096 rfl

theorem pick_first (d : FVec Ideal S4096x2048 .f32) (m : FVec Ideal S4096 .f32) (e : Fin 2048 → EReal) (l : Fin 4096) (he : ∀ s, d (ix2 l s) = e s)
    (hm : m (ix1 l) = Finset.univ.inf e) :
    (pick d m (ix1 l)).toNat < 2048 ∧ Nearest.First e (Fin.ofNat 2048 (pick d m (ix1 l)).toNat) ∧ m (ix1 l) = e (Fin.ofNat 2048 (pick d m (ix1 l)).toNat) := by
  have h : pick d m (ix1 l) = Finset.univ.fold IntOp.minsi (2147483647#32) fun s : Fin 2048 => if e s = m (ix1 l) then BitVec.ofNat 32 s.val else 2047#32 := by
    refine (words_eq _ l _ fun s => ?_)
    rw [pick_at, he]
    exact congrArg (fun w : BitVec 32 => if e s = m (ix1 l) then w else 2047#32) (lanes l s)
  rw [h]
  exact Nearest.first_of_words e _ hm _ fun s => rfl

/-- The matrix with each row's entry at a given lane hidden. -/
abbrev hidden (d : FVec Ideal S4096x2048 .f32) (v : IVec S4096 32) : FVec Ideal S4096x2048 .f32 :=
  select (cmpi .eq lane (broadcastTo S4096x2048 (shapeCast S4096x1 v shapeCasts_S4096_S4096x1) broadcasts_S4096x1_S4096x2048))
    (broadcast S4096x2048 (Scalar.ofBits .f32 0x7F800000#32 : Ideal .f32)) d

theorem hidden_at (d : FVec Ideal S4096x2048 .f32) (v : IVec S4096 32) (e : Fin 2048 → EReal) (l : Fin 4096) (he : ∀ s, d (ix2 l s) = e s)
    (hv : (v (ix1 l)).toNat < 2048) (s : Fin 2048) : hidden d v (ix2 l s) = Nearest.hide e (Fin.ofNat 2048 (v (ix1 l)).toNat) s := by
  refine (hide_at _ _ _ _ l s).trans ?_
  rw [show lane (ix2 l s) = _ from lanes l s, he, ofBits_eq, top]
  simp only [word_eq hv, Nearest.hide]

theorem recip_eq (m : FVec Ideal S4096 .f32) (l : Fin 4096) :
    divf (broadcast S4096 (Scalar.ofBits .f32 0x3F800000#32 : Ideal .f32)) (addf m (broadcast S4096 (Scalar.ofBits .f32 0x322BCC77#32 : Ideal .f32))) (ix1 l) = recip (m (ix1 l)) := by
  unfold recip
  rw [recip_at, ofBits_eq, ofBits_eq, Ideal.ofBits_one_f32]

theorem share_at (u p q r : FVec Ideal S4096 .f32) (l : Fin 4096) :
    divf u (addf (addf p q) r) (ix1 l) = Ideal.div (u (ix1 l)) (p (ix1 l) + q (ix1 l) + r (ix1 l)) := rfl

theorem least_eq (d : FVec Ideal S4096x2048 .f32) (e : Fin 2048 → EReal) (l : Fin 4096) (he : ∀ s, d (ix2 l s) = e s) : least d (ix1 l) = Finset.univ.inf e := by
  have h : (fun s => d (ix2 l s)) = e := funext he
  rw [← h]
  exact least_at d l

theorem share_eq (u p q r : FVec Ideal S4096 .f32) (l : Fin 4096) {a b c d : EReal} (hu : u (ix1 l) = a) (hp : p (ix1 l) = b) (hq : q (ix1 l) = c) (hr : r (ix1 l) = d) :
    divf u (addf (addf p q) r) (ix1 l) = Ideal.div a (b + c + d) := by
  rw [share_at, hu, hp, hq, hr]

/-- Three picks, each with the earlier ones hidden, are the first three of the stable sort. -/
theorem three (d d₁ d₂ : FVec Ideal S4096x2048 .f32) (e : Fin 2048 → EReal) (l : Fin 4096) (he : ∀ s, d (ix2 l s) = e s) (ht : ∀ s, e s < ⊤)
    (m₀ m₁ m₂ : FVec Ideal S4096 .f32) (p₀ p₁ p₂ : IVec S4096 32)
    (g₀ : m₀ = least d) (h₀ : p₀ = pick d m₀) (k₁ : d₁ = hidden d p₀) (g₁ : m₁ = least d₁) (h₁ : p₁ = pick d₁ m₁) (k₂ : d₂ = hidden d₁ p₁) (g₂ : m₂ = least d₂) (h₂ : p₂ = pick d₂ m₂) :
    (p₀ (ix1 l) = BitVec.ofNat 32 (near e 0).val ∧ p₁ (ix1 l) = BitVec.ofNat 32 (near e 1).val ∧ p₂ (ix1 l) = BitVec.ofNat 32 (near e 2).val)
      ∧ m₀ (ix1 l) = e (near e 0) ∧ m₁ (ix1 l) = e (near e 1) ∧ m₂ (ix1 l) = e (near e 2) := by
  obtain ⟨b0, f0, v0⟩ := pick_first d m₀ e l he (by rw [g₀]; exact least_eq d e l he)
  rw [← h₀] at b0 f0 v0
  have e1 : ∀ s, d₁ (ix2 l s) = Nearest.hide e (Fin.ofNat 2048 (p₀ (ix1 l)).toNat) s := fun s => by rw [k₁]; exact hidden_at d p₀ e l he b0 s
  have w0 := word_back b0
  generalize Fin.ofNat 2048 (p₀ (ix1 l)).toNat = i₀ at f0 v0 e1 w0
  obtain ⟨b1, f1, v1⟩ := pick_first d₁ m₁ _ l e1 (by rw [g₁]; exact least_eq d₁ _ l e1)
  rw [← h₁] at b1 f1 v1
  have e2 : ∀ s, d₂ (ix2 l s) = Nearest.hide (Nearest.hide e i₀) (Fin.ofNat 2048 (p₁ (ix1 l)).toNat) s := fun s => by rw [k₂]; exact hidden_at d₁ p₁ _ l e1 b1 s
  have w1 := word_back b1
  generalize Fin.ofNat 2048 (p₁ (ix1 l)).toNat = i₁ at f1 v1 e2 w1
  obtain ⟨b2, f2, v2⟩ := pick_first d₂ m₂ _ l e2 (by rw [g₂]; exact least_eq d₂ _ l e2)
  rw [← h₂] at b2 f2 v2
  have w2 := word_back b2
  generalize Fin.ofNat 2048 (p₂ (ix1 l)).toNat = i₂ at f2 v2 w2
  obtain ⟨⟨n10, n20, n21⟩, hs⟩ := Nearest.sorted_three (by decide) e ht f0 f1 f2
  have hn : ∀ k, near e k = (![i₀, i₁, i₂] : Fin 3 → Fin 2048) k := hs
  have hn0 : near e 0 = i₀ := hn 0
  have hn1 : near e 1 = i₁ := hn 1
  have hn2 : near e 2 = i₂ := hn 2
  rw [hn0, hn1, hn2]
  refine ⟨⟨w0, w1, w2⟩, v0, ?_, ?_⟩
  · rw [v1]; simp only [Nearest.hide, if_neg n10]
  · rw [v2]; simp only [Nearest.hide, if_neg n20, if_neg n21]

/-- The row numbers and the weights the first kernel finds are those of the sort's first three positions. -/
theorem knn (b : BitVec 32) (x : Vec Ideal S1x4096x3 .f32) (y : Vec Ideal S1x2048x3 .f32) (l : Fin 4096) (hd : ∀ s, D x y l s < ⊤) (k : Fin 3) :
    knnIdx b x y (ix3 0 k l) = IntOp.addi (BitVec.ofNat 32 (near (D x y l) k).val) (Scalar.muli b 2048#32) ∧
    knnWt x y (ix3 0 k l) = Ideal.div (recip (D x y l (near (D x y l) k)))
      (recip (D x y l (near (D x y l) 0)) + recip (D x y l (near (D x y l) 1)) + recip (D x y l (near (D x y l) 2))) := by
  obtain ⟨⟨i0, i1, i2⟩, v0, v1, v2⟩ := three (k0_pay1 x y) (k0_pay4 x y) (k0_pay9 lane (k0_pay4 x y) (k0_pay7 x y)) (D x y l) l (dist x y l) hd
    (k0_pay2 x y) (k0_pay6 x y) (k0_pay10 lane (k0_pay4 x y) (k0_pay7 x y)) (k0_pay3 x y) (k0_pay8 (k0_pay7 x y)) _ rfl rfl rfl rfl rfl rfl rfl rfl
  have r0 := recip_eq (k0_pay2 x y) l
  have r1 := recip_eq (k0_pay6 x y) l
  have r2 := recip_eq (k0_pay10 lane (k0_pay4 x y) (k0_pay7 x y)) l
  rw [v0] at r0
  rw [v1] at r1
  rw [v2] at r2
  constructor
  · exact stack_idx (k0_pay3 x y) (k0_pay8 (k0_pay7 x y)) _ _ k l (fun k => BitVec.ofNat 32 (near (D x y l) k).val) i0 i1 i2
  · refine stack_wt _ _ _ k l (fun k => Ideal.div (recip (D x y l (near (D x y l) k)))
      (recip (D x y l (near (D x y l) 0)) + recip (D x y l (near (D x y l) 1)) + recip (D x y l (near (D x y l) 2)))) ?_ ?_ ?_
    · exact share_eq _ _ _ _ l r0 r0 r1 r2
    · exact share_eq _ _ _ _ l r1 r0 r1 r2
    · exact share_eq _ _ _ _ l r2 r0 r1 r2

end Cert.Proof.Pay

end
-- ==== Proof.Spec.lean ====
/-
  The result, as mathematics: the three nearest rows of every point, their weights, the interpolated features joined with the point's own,
  and three layers, each normalised over all points.
-/
module

public import proofs.«01_k».proof.Proof.Norm
public import proofs.«01_k».proof.Proof.Pay

@[expose] public section

noncomputable section

namespace Cert.Proof.Spec

open Idealize.ShloMosaic Cert.Proof.Norm Cert.Proof.Pay
open scoped BigOperators

/-- A point: its batch and its number. -/
abbrev Pt : Type := Fin 4 × Fin 8192

/-- The arguments, as functions of their indices. -/
structure Args where
  xyz₁ : Fin 4 → Fin 8192 → Fin 3 → EReal
  xyz₂ : Fin 4 → Fin 2048 → Fin 3 → EReal
  feat₁ : Fin 4 → Fin 64 → Fin 8192 → EReal
  feat₂ : Fin 4 → Fin 128 → Fin 2048 → EReal
  w₁ : Fin 128 → Fin 192 → EReal
  c₁ : Fin 128 → EReal
  g₁ : Fin 128 → EReal
  b₁ : Fin 128 → EReal
  w₂ : Fin 128 → Fin 128 → EReal
  c₂ : Fin 128 → EReal
  g₂ : Fin 128 → EReal
  b₂ : Fin 128 → EReal
  w₃ : Fin 128 → Fin 128 → EReal
  c₃ : Fin 128 → EReal
  g₃ : Fin 128 → EReal
  b₃ : Fin 128 → EReal

variable (A : Args)

/-- The squared distance between a point and a row, multiplied out. -/
def dist (p : Pt) (s : Fin 2048) : EReal :=
  Ideal.ofBits FTy.f32 0xC0000000#32 * (∑ e : Fin 3, A.xyz₁ p.1 p.2 e * A.xyz₂ p.1 s e) + (∑ e : Fin 3, A.xyz₁ p.1 p.2 e * A.xyz₁ p.1 p.2 e)
    + ∑ e : Fin 3, A.xyz₂ p.1 s e * A.xyz₂ p.1 s e

/-- The `k`-th nearest row. -/
def row (p : Pt) (k : Fin 3) : Fin 2048 := near (dist A p) k

/-- Its share among the three. -/
def weight (p : Pt) (k : Fin 3) : EReal :=
  Ideal.div (recip (dist A p (row A p k))) (recip (dist A p (row A p 0)) + recip (dist A p (row A p 1)) + recip (dist A p (row A p 2)))

/-- The interpolated features. -/
def interp (p : Pt) (i : Fin 128) : EReal :=
  A.feat₂ p.1 i (row A p 0) * weight A p 0 + A.feat₂ p.1 i (row A p 1) * weight A p 1 + A.feat₂ p.1 i (row A p 2) * weight A p 2

/-- The first layer, before it is normalised. -/
def y₁ (o : Fin 128) (p : Pt) : EReal :=
  ((∑ i : Fin 64, A.w₁ o (i.castLE (by decide)) * A.feat₁ p.1 i p.2) + ∑ i : Fin 128, A.w₁ o (i.natAdd 64) * interp A p i) + A.c₁ o

def z₁ (o : Fin 128) (p : Pt) : EReal := max (norm (y₁ A o) (A.g₁ o) (A.b₁ o) p) 0
def y₂ (o : Fin 128) (p : Pt) : EReal := (∑ i : Fin 128, A.w₂ o i * z₁ A i p) + A.c₂ o
def z₂ (o : Fin 128) (p : Pt) : EReal := max (norm (y₂ A o) (A.g₂ o) (A.b₂ o) p) 0
def y₃ (o : Fin 128) (p : Pt) : EReal := (∑ i : Fin 128, A.w₃ o i * z₂ A i p) + A.c₃ o
/-- The result. -/
def out (o : Fin 128) (p : Pt) : EReal := max (norm (y₃ A o) (A.g₃ o) (A.b₃ o) p + z₁ A o p) 0

/-! ## Every step is real where the arguments are -/

/-- The arguments are real, but for the last layer's offset. -/
structure Args.Real : Prop where
  xyz₁ : ∀ b n e, IsReal (A.xyz₁ b n e)
  xyz₂ : ∀ b s e, IsReal (A.xyz₂ b s e)
  feat₁ : ∀ b i n, IsReal (A.feat₁ b i n)
  feat₂ : ∀ b i s, IsReal (A.feat₂ b i s)
  w₁ : ∀ o i, IsReal (A.w₁ o i)
  c₁ : ∀ o, IsReal (A.c₁ o)
  g₁ : ∀ o, IsReal (A.g₁ o)
  b₁ : ∀ o, IsReal (A.b₁ o)
  w₂ : ∀ o i, IsReal (A.w₂ o i)
  c₂ : ∀ o, IsReal (A.c₂ o)
  g₂ : ∀ o, IsReal (A.g₂ o)
  b₂ : ∀ o, IsReal (A.b₂ o)
  w₃ : ∀ o i, IsReal (A.w₃ o i)
  c₃ : ∀ o, IsReal (A.c₃ o)
  g₃ : ∀ o, IsReal (A.g₃ o)

theorem card_points : (Fintype.card Pt : ℝ) = 32768 := by
  rw [Fintype.card_prod, Fintype.card_fin, Fintype.card_fin]
  norm_num

variable {A} (h : A.Real)
include h

/-- A distance is the sum of the squared differences: a real number not below zero. -/
theorem dist_real (p : Pt) (s : Fin 2048) : ∃ r : ℝ, 0 ≤ r ∧ dist A p s = (r : EReal) := by
  choose x hx using fun e => h.xyz₁ p.1 p.2 e
  choose y hy using fun e => h.xyz₂ p.1 s e
  refine ⟨-2 * (∑ e, x e * y e) + (∑ e, x e * x e) + ∑ e, y e * y e, ?_, ?_⟩
  · have : -2 * (∑ e, x e * y e) + (∑ e, x e * x e) + ∑ e, y e * y e = ∑ e, (x e - y e) ^ 2 := by
      simp only [Fin.sum_univ_three]
      ring
    rw [this]
    exact Finset.sum_nonneg fun e _ => sq_nonneg _
  · unfold dist
    simp only [hx, hy, ← EReal.coe_mul, ← coe_sum, neg_two, ← EReal.coe_add]

theorem dist_lt (p : Pt) (s : Fin 2048) : dist A p s < ⊤ := by
  obtain ⟨r, -, e⟩ := dist_real h p s
  rw [e]
  exact EReal.coe_lt_top r

theorem recip_real (p : Pt) (s : Fin 2048) : ∃ r : ℝ, 0 < r ∧ recip (dist A p s) = (r : EReal) := by
  obtain ⟨r, hr, e⟩ := dist_real h p s
  obtain ⟨d, hd, e'⟩ := eps'
  refine ⟨1 / (r + d), by positivity, ?_⟩
  unfold recip
  rw [e, e', ← EReal.coe_add, ← EReal.coe_one, div_coe (by positivity)]

theorem weight_real (p : Pt) (k : Fin 3) : IsReal (weight A p k) := by
  choose r hr e using fun k => recip_real h p (row A p k)
  have := hr 0
  have := hr 1
  have := hr 2
  refine ⟨r k / (r 0 + r 1 + r 2), ?_⟩
  unfold weight
  rw [e, e, e, e, ← EReal.coe_add, ← EReal.coe_add, div_coe (by positivity)]

theorem interp_real (p : Pt) (i : Fin 128) : IsReal (interp A p i) :=
  (((h.feat₂ _ _ _).mul (weight_real h p 0)).add ((h.feat₂ _ _ _).mul (weight_real h p 1))).add ((h.feat₂ _ _ _).mul (weight_real h p 2))

theorem y₁_real (o : Fin 128) (p : Pt) : IsReal (y₁ A o p) :=
  ((IsReal.sum _ _ fun i => (h.w₁ _ _).mul (h.feat₁ _ _ _)).add (IsReal.sum _ _ fun i => (h.w₁ _ _).mul (interp_real h p i))).add (h.c₁ o)

theorem z₁_real (o : Fin 128) (p : Pt) : IsReal (z₁ A o p) :=
  ((two_ways card_points (y₁ A o) (y₁_real h o) (h.g₁ o) (A.b₁ o) p).2 (h.b₁ o)).max .zero

theorem y₂_real (o : Fin 128) (p : Pt) : IsReal (y₂ A o p) := (IsReal.sum _ _ fun i => (h.w₂ _ _).mul (z₁_real h i p)).add (h.c₂ o)

theorem z₂_real (o : Fin 128) (p : Pt) : IsReal (z₂ A o p) :=
  ((two_ways card_points (y₂ A o) (y₂_real h o) (h.g₂ o) (A.b₂ o) p).2 (h.b₂ o)).max .zero

theorem y₃_real (o : Fin 128) (p : Pt) : IsReal (y₃ A o p) := (IsReal.sum _ _ fun i => (h.w₃ _ _).mul (z₂_real h i p)).add (h.c₃ o)

end Cert.Proof.Spec

end

end
-- ==== Proof.Arr.lean ====
/-
  What each call leaves in its result arrays, entry by entry, from the entries of its operands.
-/
module

public import proofs.«01_k».proof.Proof.Keep
public import proofs.«01_k».proof.Proof.Spec
public import Idealize.ShloMosaic.Lib.Pipeline.ValueKit

@[expose] public section

set_option maxRecDepth 16384

noncomputable section

namespace Cert.Proof.Arr

open Cert.KernelIdeal Cert.KernelIdeal.Gen Cert.Proof.Run
open Idealize.ShloMosaic Idealize.ShloMosaic.TcCoe Idealize.ShloMosaic.Pipeline
open scoped BigOperators

/-- An array of features at a channel and a point. -/
abbrev feat (f : FVec Ideal S4x128x8192 .f32) (c : Fin 128) (p : Spec.Pt) : EReal := f (ix3 p.1 c p.2)
/-- A column at a channel. -/
abbrev col (f : FVec Ideal S128x1 .f32) (c : Fin 128) : EReal := f (ix2 c 0)
/-- A square matrix at its two indices. -/
abbrev mat (f : FVec Ideal S128x128 .f32) (o i : Fin 128) : EReal := f (ix2 o i)
/-- The pair of sums at a channel. -/
abbrev sums (f : FVec Ideal S2x128 .f32) (k : Fin 2) (c : Fin 128) : EReal := f (ix2 k c)

/-- The inner features, the gathered rows and the weights, at their indices. -/
abbrev feat₁ (f : FVec Ideal S4x64x8192 .f32) (b : Fin 4) (i : Fin 64) (n : Fin 8192) : EReal := f (ix3 b i n)
abbrev rows (f : FVec Ideal S4x3x8192x128 .f32) (b : Fin 4) (k : Fin 3) (n : Fin 8192) (i : Fin 128) : EReal := f (ix4 b k n i)
abbrev shares (f : FVec Ideal S4x3x8192 .f32) (b : Fin 4) (k : Fin 3) (n : Fin 8192) : EReal := f (ix3 b k n)
abbrev mat₁ (f : FVec Ideal S128x64 .f32) (o : Fin 128) (i : Fin 64) : EReal := f (ix2 o i)
abbrev xyz₁ (f : FVec Ideal S4x8192x3 .f32) (b : Fin 4) (n : Fin 8192) (e : Fin 3) : EReal := f (ix3 b n e)
abbrev xyz₂ (f : FVec Ideal S4x2048x3 .f32) (b : Fin 4) (n : Fin 2048) (e : Fin 3) : EReal := f (ix3 b n e)
abbrev words (f : IVec S4x3x8192 32) (b : Fin 4) (k : Fin 3) (n : Fin 8192) : BitVec 32 := f (ix3 b k n)

/-- The point at lane `l` of the block that the grid's point `t` works on. -/
def pt (t : Fin 8) (l : Fin 4096) : Spec.Pt := (⟨t.val / 2, by omega⟩, ⟨t.val % 2 * 4096 + l.val, by omega⟩)

/-- Blocks and lanes together are all points. -/
theorem sum_points (f : Spec.Pt → EReal) : ∑ t : Fin 8, ∑ l : Fin 4096, f (pt t l) = ∑ p, f p := by
  rw [← Fintype.sum_prod_type']
  refine Fintype.sum_bijective (fun x : Fin 8 × Fin 4096 => pt x.1 x.2) ⟨fun x y h => ?_, fun p => ?_⟩ _ _ fun _ => rfl
  · have h1 : x.1.val / 2 = y.1.val / 2 := congrArg (fun p : Spec.Pt => p.1.val) h
    have h2 : x.1.val % 2 * 4096 + x.2.val = y.1.val % 2 * 4096 + y.2.val := congrArg (fun p : Spec.Pt => p.2.val) h
    exact Prod.ext (Fin.ext (by omega)) (Fin.ext (by omega))
  · refine ⟨(⟨p.1.val * 2 + p.2.val / 4096, by omega⟩, ⟨p.2.val % 4096, by omega⟩), Prod.ext (Fin.ext ?_) (Fin.ext ?_)⟩
    · show (p.1.val * 2 + p.2.val / 4096) / 2 = p.1.val
      omega
    · show (p.1.val * 2 + p.2.val / 4096) % 2 * 4096 + p.2.val % 4096 = p.2.val
      omega

/-- The sums carried from block to block end as the sums over all points. -/
theorem chain_sums (lay : Fin 8 → Vec Ideal S128x4096 .f32) (f : Fin 128 → Spec.Pt → EReal) (h : ∀ t c l, (lay t (ix2 c l) : EReal) = f c (pt t l)) (h7 : 7 < 8) (c : Fin 128) :
    sums (Run.chain lay 7 h7) 0 c = ∑ p, f c p ∧ sums (Run.chain lay 7 h7) 1 c = ∑ p, f c p * f c p := by
  have e0 : ∀ t (s : Vec Ideal S2x128 .f32), k2_pay3 (F := Ideal) (lay t) s (ix2 0 c) = s (ix2 0 c) + ∑ l : Fin 4096, f c (pt t l) := fun t s => by
    rw [Pay.stats0]; simp only [h]
  have e1 : ∀ t (s : Vec Ideal S2x128 .f32), k2_pay3 (F := Ideal) (lay t) s (ix2 1 c) = s (ix2 1 c) + ∑ l : Fin 4096, f c (pt t l) * f c (pt t l) := fun t s => by
    rw [Pay.stats1]; simp only [h]
  rw [← sum_points (f c), ← sum_points fun p => f c p * f c p]
  constructor
  · simp only [sums, Run.chain, e0, Pay.stats_start, Fin.sum_univ_eight]
    rw [zero_add]
    rfl
  · simp only [sums, Run.chain, e1, Pay.stats_start, Fin.sum_univ_eight]
    rw [zero_add]
    rfl

variable (d : Dev nD) (n : ℕ) (W : Vl Ideal)

/-! ## The nearest rows -/

theorem index0 : ∀ t : Fin cfg0.N, win0_0.index t = ![t.val / 2, t.val % 2, 0] ∧ win0_1.index t = ![t.val / 2, 0, 0] ∧ win0_2.index t = ![t.val / 2, 0, t.val % 2] ∧ win0_3.index t = ![t.val / 2, 0, t.val % 2] :=
  (by decide +kernel : ∀ t : Fin grid0.N, _)

theorem batch0 : ∀ t : Fin cfg0.N, (cfg0.grid.coords t 0).val = t.val / 2 :=
  (by decide +kernel : ∀ t : Fin grid0.N, (grid0.coords t 0).val = t.val / 2)

theorem at0_0 (k : Fin cfg0.N) (l : Fin 4096) (e : Fin 3) : (((cfg0.win 0).blk k).view.emb (ix3 0 l e) : S4x8192x3.Idx) = ix3 (pt k l).1 (pt k l).2 e := by
  have h := index0 k
  blk_ext [h, pt]

theorem at0_1 (k : Fin cfg0.N) (l : Fin 4096) (s : Fin 2048) (e : Fin 3) : (((cfg0.win 1).blk k).view.emb (ix3 0 s e) : S4x2048x3.Idx) = ix3 (pt k l).1 s e := by
  have h := index0 k
  blk_ext [h, pt]

theorem at0_2 (k : Fin cfg0.N) (c : Fin 3) (l : Fin 4096) : (((cfg0.win 2).blk k).view.emb (ix3 0 c l) : S4x3x8192.Idx) = ix3 (pt k l).1 c (pt k l).2 := by
  have e := index0 k
  blk_ext [e, pt]

theorem at0_3 (k : Fin cfg0.N) (c : Fin 3) (l : Fin 4096) : (((cfg0.win 3).blk k).view.emb (ix3 0 c l) : S4x3x8192.Idx) = ix3 (pt k l).1 c (pt k l).2 := by
  have e := index0 k
  blk_ext [e, pt]

theorem dist0 (A : Spec.Args) (hx : ∀ b n e, xyz₁ (W (Proc.devRef .tc main_arg0)) b n e = A.xyz₁ b n e) (hy : ∀ b n e, xyz₂ (W (Proc.devRef .tc main_arg1)) b n e = A.xyz₂ b n e)
    (k : Fin 8) (l : Fin 4096) : Pay.D (stg cfg0 W 0 k) (stg cfg0 W 1 k) l = Spec.dist A (pt k l) := by
  have f0 (e) : stg cfg0 W 0 k (ix3 0 l e) = A.xyz₁ (pt k l).1 (pt k l).2 e := (congrArg (W (Proc.devRef .tc main_arg0)) (at0_0 k l e)).trans (hx _ _ _)
  have f1 (s e) : stg cfg0 W 1 k (ix3 0 s e) = A.xyz₂ (pt k l).1 s e := (congrArg (W (Proc.devRef .tc main_arg1)) (at0_1 k l s e)).trans (hy _ _ _)
  funext s
  unfold Pay.D Spec.dist
  simp only [f0, f1]

/-- The row's place among the rows of all batches. -/
def place (A : Spec.Args) (j : S4x3x8192.Idx) : BitVec 32 :=
  IntOp.addi (BitVec.ofNat 32 (Spec.row A (j 0, j 2) (j 1)).val) (Scalar.muli (BitVec.ofNat 32 (j 0).val) 2048#32)

/-- The row's share. -/
def share (A : Spec.Args) (j : S4x3x8192.Idx) : EReal := Spec.weight A (j 0, j 2) (j 1)

/-- The first call leaves the nearest rows of each point, counted over all batches, and their shares. -/
theorem arr0 (A : Spec.Args) (hx : ∀ b n e, xyz₁ (W (Proc.devRef .tc main_arg0)) b n e = A.xyz₁ b n e) (hy : ∀ b n e, xyz₂ (W (Proc.devRef .tc main_arg1)) b n e = A.xyz₂ b n e)
    (hd : ∀ p s, Spec.dist A p s < ⊤) (p : Spec.Pt) (k : Fin 3) :
    words ((mkDat cfg0 d n W (after0 W)).arrAt 2 cfg0.N) p.1 k p.2 = place A (ix3 p.1 k p.2)
      ∧ shares ((mkDat cfg0 d n W (after0 W)).arrAt 3 cfg0.N) p.1 k p.2 = share A (ix3 p.1 k p.2) := by
  have hk (t : Fin 8) (l : Fin 4096) (q : Fin 3) :
      knnIdx (BitVec.ofNat 32 (t.val / 2)) (stg cfg0 W 0 t) (stg cfg0 W 1 t) (ix3 0 q l) = place A (ix3 (pt t l).1 q (pt t l).2)
        ∧ knnWt (stg cfg0 W 0 t) (stg cfg0 W 1 t) (ix3 0 q l) = share A (ix3 (pt t l).1 q (pt t l).2) := by
    have hD := dist0 W A hx hy t l
    have h := Pay.knn (BitVec.ofNat 32 (t.val / 2)) (stg cfg0 W 0 t) (stg cfg0 W 1 t) l (fun s => by rw [hD]; exact hd _ s) q
    rw [hD] at h
    exact h
  have h : (mkDat cfg0 d n W (after0 W)).arrAt 2 cfg0.N = (place A : IVec S4x3x8192 32) := by
    refine (mkDat cfg0 d n W (after0 W)).arrAt_eq_of_covers 2 _ (by decide +kernel) fun t hf j => ?_
    change S1x3x4096.Idx at j
    idx_vars j
    obtain rfl : j0 = 0 := Subsingleton.elim _ _
    show knnIdx (BitVec.ofNat 32 (cfg0.grid.coords t 0).val) (stg cfg0 W 0 t) (stg cfg0 W 1 t) (ix3 0 j1 j2) = _
    rw [batch0 t]
    refine (hk t j2 j1).1.trans ?_
    exact congrArg (place A) (at0_2 t j1 j2).symm
  have h' : (mkDat cfg0 d n W (after0 W)).arrAt 3 cfg0.N = (share A : FVec Ideal S4x3x8192 .f32) := by
    refine (mkDat cfg0 d n W (after0 W)).arrAt_eq_of_covers 3 _ (by decide +kernel) fun t hf j => ?_
    change S1x3x4096.Idx at j
    idx_vars j
    obtain rfl : j0 = 0 := Subsingleton.elim _ _
    show knnWt (stg cfg0 W 0 t) (stg cfg0 W 1 t) (ix3 0 j1 j2) = _
    refine (hk t j2 j1).2.trans ?_
    exact congrArg (share A) (at0_3 t j1 j2).symm
  exact ⟨congrFun h (ix3 p.1 k p.2), congrFun h' (ix3 p.1 k p.2)⟩

/-! ## The first layer -/

theorem index2 : ∀ t : Fin cfg2.N, win2_0.index t = ![t.val / 2, 0, t.val % 2, 0] ∧ win2_1.index t = ![t.val / 2, 0, t.val % 2] ∧ win2_2.index t = ![t.val / 2, 0, t.val % 2] ∧ win2_3.index t = ![0, 0] ∧ win2_4.index t = ![0, 0] ∧ win2_5.index t = ![0, 0] ∧ win2_6.index t = ![t.val / 2, 0, t.val % 2] ∧ win2_7.index t = ![0, 0] :=
  (by decide +kernel : ∀ t : Fin grid2.N, _)

theorem at2_0 (k : Fin cfg2.N) (q : Fin 3) (l : Fin 4096) (i : Fin 128) : (((cfg2.win 0).blk k).view.emb (ix4 0 q l i) : S4x3x8192x128.Idx) = ix4 (pt k l).1 q (pt k l).2 i := by
  have e := index2 k
  blk_ext [e, pt]

theorem at2_1 (k : Fin cfg2.N) (c : Fin 3) (l : Fin 4096) : (((cfg2.win 1).blk k).view.emb (ix3 0 c l) : S4x3x8192.Idx) = ix3 (pt k l).1 c (pt k l).2 := by
  have e := index2 k
  blk_ext [e, pt]

theorem at2_2 (k : Fin cfg2.N) (c : Fin 64) (l : Fin 4096) : (((cfg2.win 2).blk k).view.emb (ix3 0 c l) : S4x64x8192.Idx) = ix3 (pt k l).1 c (pt k l).2 := by
  have e := index2 k
  blk_ext [e, pt]

theorem at2_3 (k : Fin cfg2.N) (o : Fin 128) (i : Fin 64) : (((cfg2.win 3).blk k).view.emb (ix2 o i) : S128x64.Idx) = ix2 o i := by
  have e := index2 k
  blk_ext [e, pt]

theorem at2_4 (k : Fin cfg2.N) (o : Fin 128) (i : Fin 128) : (((cfg2.win 4).blk k).view.emb (ix2 o i) : S128x128.Idx) = ix2 o i := by
  have e := index2 k
  blk_ext [e, pt]

theorem at2_5 (k : Fin cfg2.N) (c : Fin 128) : (((cfg2.win 5).blk k).view.emb (ix2 c 0) : S128x1.Idx) = ix2 c 0 := by
  have e := index2 k
  blk_ext [e, pt]

theorem at2_6 (k : Fin cfg2.N) (c : Fin 128) (l : Fin 4096) : (((cfg2.win 6).blk k).view.emb (ix3 0 c l) : S4x128x8192.Idx) = ix3 (pt k l).1 c (pt k l).2 := by
  have e := index2 k
  blk_ext [e, pt]

theorem at2_7 (k : Fin cfg2.N) (i : Fin 2) (o : Fin 128) : (((cfg2.win 7).blk k).view.emb (ix2 i o) : S2x128.Idx) = ix2 i o := by
  have e := index2 k
  blk_ext [e, pt]

theorem out2 (y : Fin 128 → Spec.Pt → EReal) (hl : ∀ k c l, (lay2 W k : FVec Ideal S128x4096 .f32) (ix2 c l) = y c (pt k l)) :
    (∀ c p, feat ((mkDat cfg2 d n W (after2 W)).arrAt 6 cfg2.N) c p = y c p)
      ∧ (∀ c, sums ((mkDat cfg2 d n W (after2 W)).arrAt 7 cfg2.N) 0 c = ∑ p, y c p) ∧ ∀ c, sums ((mkDat cfg2 d n W (after2 W)).arrAt 7 cfg2.N) 1 c = ∑ p, y c p * y c p := by
  have h : (mkDat cfg2 d n W (after2 W)).arrAt 6 cfg2.N = (fun j => y (j 1) (j 0, j 2) : FVec Ideal S4x128x8192 .f32) := by
    refine (mkDat cfg2 d n W (after2 W)).arrAt_eq_of_covers 6 _ (by decide +kernel) fun k hf j => ?_
    change S1x128x4096.Idx at j
    idx_vars j
    obtain rfl : j0 = 0 := Subsingleton.elim _ _
    refine (Pay.layer_out (lay2 W k) j1 j2).trans ((hl k j1 j2).trans ?_)
    exact congrArg (fun j : S4x128x8192.Idx => y (j 1) (j 0, j 2)) (at2_6 k j1 j2).symm
  have h' : (mkDat cfg2 d n W (after2 W)).arrAt 7 cfg2.N = Run.chain (lay2 W) t2_7.val t2_7.isLt := by
    refine (mkDat cfg2 d n W (after2 W)).arrAt_eq_of_after_last 7 t2_7 (by decide +kernel) _ fun j => ?_
    rfl
  refine ⟨fun c p => congrFun h (ix3 p.1 c p.2), fun c => ?_, fun c => ?_⟩
  · rw [h']
    exact (chain_sums (lay2 W) y hl _ c).1
  · rw [h']
    exact (chain_sums (lay2 W) y hl _ c).2

theorem lay2_at (g : Fin 4 → Fin 3 → Fin 8192 → Fin 128 → EReal) (w : Fin 4 → Fin 3 → Fin 8192 → EReal) (f : Fin 4 → Fin 64 → Fin 8192 → EReal)
    (a : Fin 128 → Fin 64 → EReal) (b : Fin 128 → Fin 128 → EReal) (o : Fin 128 → EReal) (hg : ∀ b k n i, rows (W (Proc.devRef .tc main_v5)) b k n i = g b k n i)
    (hw : ∀ b k n, shares (W (Proc.devRef .tc main_v0_1)) b k n = w b k n) (hf : ∀ b i n, feat₁ (W (Proc.devRef .tc main_arg2)) b i n = f b i n)
    (ha : ∀ o i, mat₁ (W (Proc.devRef .tc main_v6)) o i = a o i) (hb : ∀ o i, mat (W (Proc.devRef .tc main_v7)) o i = b o i)
    (ho : ∀ c, col (W (Proc.devRef .tc main_v8)) c = o c) (k : Fin 8) (c : Fin 128) (l : Fin 4096) :
    (lay2 W k : FVec Ideal S128x4096 .f32) (ix2 c l) = (fun (c : Fin 128) (p : Spec.Pt) => ((∑ i : Fin 64, a c i * f p.1 i p.2)
      + ∑ i : Fin 128, b c i * (g p.1 0 p.2 i * w p.1 0 p.2 + g p.1 1 p.2 i * w p.1 1 p.2 + g p.1 2 p.2 i * w p.1 2 p.2)) + o c) c (pt k l) := by
  have f0 (q i) : stg cfg2 W 0 k (ix4 0 q l i) = g (pt k l).1 q (pt k l).2 i := (congrArg (W (Proc.devRef .tc main_v5)) (at2_0 k q l i)).trans (hg _ _ _ _)
  have f1 (q) : stg cfg2 W 1 k (ix3 0 q l) = w (pt k l).1 q (pt k l).2 := (congrArg (W (Proc.devRef .tc main_v0_1)) (at2_1 k q l)).trans (hw _ _ _)
  have f2 (i) : stg cfg2 W 2 k (ix3 0 i l) = f (pt k l).1 i (pt k l).2 := (congrArg (W (Proc.devRef .tc main_arg2)) (at2_2 k i l)).trans (hf _ _ _)
  have f3 (i) : stg cfg2 W 3 k (ix2 c i) = a c i := (congrArg (W (Proc.devRef .tc main_v6)) (at2_3 k c i)).trans (ha _ _)
  have f4 (i) : stg cfg2 W 4 k (ix2 c i) = b c i := (congrArg (W (Proc.devRef .tc main_v7)) (at2_4 k c i)).trans (hb _ _)
  have f5 : stg cfg2 W 5 k (ix2 c 0) = o c := (congrArg (W (Proc.devRef .tc main_v8)) (at2_5 k c)).trans (ho _)
  refine (Pay.fuse (stg cfg2 W 0 k) (stg cfg2 W 1 k) (stg cfg2 W 3 k) (stg cfg2 W 2 k) (stg cfg2 W 4 k) (stg cfg2 W 5 k) c l).trans ?_
  rw [f5, f1, f1, f1]
  refine congrArg (· + o c) (congrArg₂ (· + ·) (Finset.sum_congr rfl fun i _ => ?_) (Finset.sum_congr rfl fun i _ => ?_))
  · rw [f2, f3]
  · rw [f0, f0, f0, f4]

/-! ## The second layer -/

theorem index3 : ∀ t : Fin cfg3.N, win3_0.index t = ![t.val / 2, 0, t.val % 2] ∧ win3_1.index t = ![0, 0] ∧ win3_2.index t = ![0, 0] ∧ win3_3.index t = ![0, 0] ∧ win3_4.index t = ![0, 0] ∧ win3_5.index t = ![t.val / 2, 0, t.val % 2] ∧ win3_6.index t = ![0, 0] :=
  (by decide +kernel : ∀ t : Fin grid3.N, _)

theorem at3_0 (k : Fin cfg3.N) (c : Fin 128) (l : Fin 4096) : (((cfg3.win 0).blk k).view.emb (ix3 0 c l) : S4x128x8192.Idx) = ix3 (pt k l).1 c (pt k l).2 := by
  have e := index3 k
  blk_ext [e, pt]

theorem at3_1 (k : Fin cfg3.N) (c : Fin 128) : (((cfg3.win 1).blk k).view.emb (ix2 c 0) : S128x1.Idx) = ix2 c 0 := by
  have e := index3 k
  blk_ext [e, pt]

theorem at3_2 (k : Fin cfg3.N) (c : Fin 128) : (((cfg3.win 2).blk k).view.emb (ix2 c 0) : S128x1.Idx) = ix2 c 0 := by
  have e := index3 k
  blk_ext [e, pt]

theorem at3_3 (k : Fin cfg3.N) (o : Fin 128) (i : Fin 128) : (((cfg3.win 3).blk k).view.emb (ix2 o i) : S128x128.Idx) = ix2 o i := by
  have e := index3 k
  blk_ext [e, pt]

theorem at3_4 (k : Fin cfg3.N) (c : Fin 128) : (((cfg3.win 4).blk k).view.emb (ix2 c 0) : S128x1.Idx) = ix2 c 0 := by
  have e := index3 k
  blk_ext [e, pt]

theorem at3_5 (k : Fin cfg3.N) (c : Fin 128) (l : Fin 4096) : (((cfg3.win 5).blk k).view.emb (ix3 0 c l) : S4x128x8192.Idx) = ix3 (pt k l).1 c (pt k l).2 := by
  have e := index3 k
  blk_ext [e, pt]

theorem at3_6 (k : Fin cfg3.N) (i : Fin 2) (o : Fin 128) : (((cfg3.win 6).blk k).view.emb (ix2 i o) : S2x128.Idx) = ix2 i o := by
  have e := index3 k
  blk_ext [e, pt]

theorem out3 (y : Fin 128 → Spec.Pt → EReal) (hl : ∀ k c l, (lay3 W k : FVec Ideal S128x4096 .f32) (ix2 c l) = y c (pt k l)) :
    (∀ c p, feat ((mkDat cfg3 d n W (after3 W)).arrAt 5 cfg3.N) c p = y c p)
      ∧ (∀ c, sums ((mkDat cfg3 d n W (after3 W)).arrAt 6 cfg3.N) 0 c = ∑ p, y c p) ∧ ∀ c, sums ((mkDat cfg3 d n W (after3 W)).arrAt 6 cfg3.N) 1 c = ∑ p, y c p * y c p := by
  have h : (mkDat cfg3 d n W (after3 W)).arrAt 5 cfg3.N = (fun j => y (j 1) (j 0, j 2) : FVec Ideal S4x128x8192 .f32) := by
    refine (mkDat cfg3 d n W (after3 W)).arrAt_eq_of_covers 5 _ (by decide +kernel) fun k hf j => ?_
    change S1x128x4096.Idx at j
    idx_vars j
    obtain rfl : j0 = 0 := Subsingleton.elim _ _
    refine (Pay.layer_out (lay3 W k) j1 j2).trans ((hl k j1 j2).trans ?_)
    exact congrArg (fun j : S4x128x8192.Idx => y (j 1) (j 0, j 2)) (at3_5 k j1 j2).symm
  have h' : (mkDat cfg3 d n W (after3 W)).arrAt 6 cfg3.N = Run.chain (lay3 W) t3_7.val t3_7.isLt := by
    refine (mkDat cfg3 d n W (after3 W)).arrAt_eq_of_after_last 6 t3_7 (by decide +kernel) _ fun j => ?_
    rfl
  refine ⟨fun c p => congrFun h (ix3 p.1 c p.2), fun c => ?_, fun c => ?_⟩
  · rw [h']
    exact (chain_sums (lay3 W) y hl _ c).1
  · rw [h']
    exact (chain_sums (lay3 W) y hl _ c).2

theorem lay3_at (y : Fin 128 → Spec.Pt → EReal) (s t b : Fin 128 → EReal) (w : Fin 128 → Fin 128 → EReal) (hy : ∀ c p, feat (W (Proc.devRef .tc main_v9_0)) c p = y c p)
    (hs : ∀ c, col (W (Proc.devRef .tc main_v26)) c = s c) (ht : ∀ c, col (W (Proc.devRef .tc main_v27)) c = t c)
    (hw : ∀ o i, mat (W (Proc.devRef .tc main_arg8)) o i = w o i) (hb : ∀ c, col (W (Proc.devRef .tc main_v28)) c = b c) (k : Fin 8) (c : Fin 128) (l : Fin 4096) :
    (lay3 W k : FVec Ideal S128x4096 .f32) (ix2 c l) = (∑ i : Fin 128, w c i * max (y i (pt k l) * s i + t i) 0) + b c := by
  have f0 (i) : stg cfg3 W 0 k (ix3 0 i l) = y i (pt k l) := (congrArg (W (Proc.devRef .tc main_v9_0)) (at3_0 k i l)).trans (hy _ _)
  have f1 (i) : stg cfg3 W 1 k (ix2 i 0) = s i := (congrArg (W (Proc.devRef .tc main_v26)) (at3_1 k i)).trans (hs _)
  have f2 (i) : stg cfg3 W 2 k (ix2 i 0) = t i := (congrArg (W (Proc.devRef .tc main_v27)) (at3_2 k i)).trans (ht _)
  have f3 (o i) : stg cfg3 W 3 k (ix2 o i) = w o i := (congrArg (W (Proc.devRef .tc main_arg8)) (at3_3 k o i)).trans (hw _ _)
  have f4 (i) : stg cfg3 W 4 k (ix2 i 0) = b i := (congrArg (W (Proc.devRef .tc main_v28)) (at3_4 k i)).trans (hb _)
  refine (Pay.mlp (stg cfg3 W 0 k) (stg cfg3 W 1 k) (stg cfg3 W 2 k) (stg cfg3 W 3 k) (stg cfg3 W 4 k) c l).trans ?_
  rw [f4]
  exact congrArg (· + b c) (Finset.sum_congr rfl fun i _ => by rw [f0, f1, f2, f3])

/-! ## The third layer -/

theorem index4 : ∀ t : Fin cfg4.N, win4_0.index t = ![t.val / 2, 0, t.val % 2] ∧ win4_1.index t = ![0, 0] ∧ win4_2.index t = ![0, 0] ∧ win4_3.index t = ![0, 0] ∧ win4_4.index t = ![0, 0] ∧ win4_5.index t = ![t.val / 2, 0, t.val % 2] ∧ win4_6.index t = ![0, 0] :=
  (by decide +kernel : ∀ t : Fin grid4.N, _)

theorem at4_0 (k : Fin cfg4.N) (c : Fin 128) (l : Fin 4096) : (((cfg4.win 0).blk k).view.emb (ix3 0 c l) : S4x128x8192.Idx) = ix3 (pt k l).1 c (pt k l).2 := by
  have e := index4 k
  blk_ext [e, pt]

theorem at4_1 (k : Fin cfg4.N) (c : Fin 128) : (((cfg4.win 1).blk k).view.emb (ix2 c 0) : S128x1.Idx) = ix2 c 0 := by
  have e := index4 k
  blk_ext [e, pt]

theorem at4_2 (k : Fin cfg4.N) (c : Fin 128) : (((cfg4.win 2).blk k).view.emb (ix2 c 0) : S128x1.Idx) = ix2 c 0 := by
  have e := index4 k
  blk_ext [e, pt]

theorem at4_3 (k : Fin cfg4.N) (o : Fin 128) (i : Fin 128) : (((cfg4.win 3).blk k).view.emb (ix2 o i) : S128x128.Idx) = ix2 o i := by
  have e := index4 k
  blk_ext [e, pt]

theorem at4_4 (k : Fin cfg4.N) (c : Fin 128) : (((cfg4.win 4).blk k).view.emb (ix2 c 0) : S128x1.Idx) = ix2 c 0 := by
  have e := index4 k
  blk_ext [e, pt]

theorem at4_5 (k : Fin cfg4.N) (c : Fin 128) (l : Fin 4096) : (((cfg4.win 5).blk k).view.emb (ix3 0 c l) : S4x128x8192.Idx) = ix3 (pt k l).1 c (pt k l).2 := by
  have e := index4 k
  blk_ext [e, pt]

theorem at4_6 (k : Fin cfg4.N) (i : Fin 2) (o : Fin 128) : (((cfg4.win 6).blk k).view.emb (ix2 i o) : S2x128.Idx) = ix2 i o := by
  have e := index4 k
  blk_ext [e, pt]

theorem out4 (y : Fin 128 → Spec.Pt → EReal) (hl : ∀ k c l, (lay4 W k : FVec Ideal S128x4096 .f32) (ix2 c l) = y c (pt k l)) :
    (∀ c p, feat ((mkDat cfg4 d n W (after4 W)).arrAt 5 cfg4.N) c p = y c p)
      ∧ (∀ c, sums ((mkDat cfg4 d n W (after4 W)).arrAt 6 cfg4.N) 0 c = ∑ p, y c p) ∧ ∀ c, sums ((mkDat cfg4 d n W (after4 W)).arrAt 6 cfg4.N) 1 c = ∑ p, y c p * y c p := by
  have h : (mkDat cfg4 d n W (after4 W)).arrAt 5 cfg4.N = (fun j => y (j 1) (j 0, j 2) : FVec Ideal S4x128x8192 .f32) := by
    refine (mkDat cfg4 d n W (after4 W)).arrAt_eq_of_covers 5 _ (by decide +kernel) fun k hf j => ?_
    change S1x128x4096.Idx at j
    idx_vars j
    obtain rfl : j0 = 0 := Subsingleton.elim _ _
    refine (Pay.layer_out (lay4 W k) j1 j2).trans ((hl k j1 j2).trans ?_)
    exact congrArg (fun j : S4x128x8192.Idx => y (j 1) (j 0, j 2)) (at4_5 k j1 j2).symm
  have h' : (mkDat cfg4 d n W (after4 W)).arrAt 6 cfg4.N = Run.chain (lay4 W) t4_7.val t4_7.isLt := by
    refine (mkDat cfg4 d n W (after4 W)).arrAt_eq_of_after_last 6 t4_7 (by decide +kernel) _ fun j => ?_
    rfl
  refine ⟨fun c p => congrFun h (ix3 p.1 c p.2), fun c => ?_, fun c => ?_⟩
  · rw [h']
    exact (chain_sums (lay4 W) y hl _ c).1
  · rw [h']
    exact (chain_sums (lay4 W) y hl _ c).2

theorem lay4_at (y : Fin 128 → Spec.Pt → EReal) (s t b : Fin 128 → EReal) (w : Fin 128 → Fin 128 → EReal) (hy : ∀ c p, feat (W (Proc.devRef .tc main_v29_0)) c p = y c p)
    (hs : ∀ c, col (W (Proc.devRef .tc main_v46)) c = s c) (ht : ∀ c, col (W (Proc.devRef .tc main_v47)) c = t c)
    (hw : ∀ o i, mat (W (Proc.devRef .tc main_arg12)) o i = w o i) (hb : ∀ c, col (W (Proc.devRef .tc main_v48)) c = b c) (k : Fin 8) (c : Fin 128) (l : Fin 4096) :
    (lay4 W k : FVec Ideal S128x4096 .f32) (ix2 c l) = (∑ i : Fin 128, w c i * max (y i (pt k l) * s i + t i) 0) + b c := by
  have f0 (i) : stg cfg4 W 0 k (ix3 0 i l) = y i (pt k l) := (congrArg (W (Proc.devRef .tc main_v29_0)) (at4_0 k i l)).trans (hy _ _)
  have f1 (i) : stg cfg4 W 1 k (ix2 i 0) = s i := (congrArg (W (Proc.devRef .tc main_v46)) (at4_1 k i)).trans (hs _)
  have f2 (i) : stg cfg4 W 2 k (ix2 i 0) = t i := (congrArg (W (Proc.devRef .tc main_v47)) (at4_2 k i)).trans (ht _)
  have f3 (o i) : stg cfg4 W 3 k (ix2 o i) = w o i := (congrArg (W (Proc.devRef .tc main_arg12)) (at4_3 k o i)).trans (hw _ _)
  have f4 (i) : stg cfg4 W 4 k (ix2 i 0) = b i := (congrArg (W (Proc.devRef .tc main_v48)) (at4_4 k i)).trans (hb _)
  refine (Pay.mlp (stg cfg4 W 0 k) (stg cfg4 W 1 k) (stg cfg4 W 2 k) (stg cfg4 W 3 k) (stg cfg4 W 4 k) c l).trans ?_
  rw [f4]
  exact congrArg (· + b c) (Finset.sum_congr rfl fun i _ => by rw [f0, f1, f2, f3])

/-! ## The last call -/

theorem index5 : ∀ t : Fin cfg5.N, win5_0.index t = ![t.val / 2, 0, t.val % 2] ∧ win5_1.index t = ![t.val / 2, 0, t.val % 2] ∧ win5_2.index t = ![0, 0] ∧ win5_3.index t = ![0, 0] ∧ win5_4.index t = ![0, 0] ∧ win5_5.index t = ![0, 0] ∧ win5_6.index t = ![t.val / 2, 0, t.val % 2] :=
  (by decide +kernel : ∀ t : Fin grid5.N, _)

theorem at5_0 (k : Fin cfg5.N) (c : Fin 128) (l : Fin 4096) : (((cfg5.win 0).blk k).view.emb (ix3 0 c l) : S4x128x8192.Idx) = ix3 (pt k l).1 c (pt k l).2 := by
  have e := index5 k
  blk_ext [e, pt]

theorem at5_1 (k : Fin cfg5.N) (c : Fin 128) (l : Fin 4096) : (((cfg5.win 1).blk k).view.emb (ix3 0 c l) : S4x128x8192.Idx) = ix3 (pt k l).1 c (pt k l).2 := by
  have e := index5 k
  blk_ext [e, pt]

theorem at5_2 (k : Fin cfg5.N) (c : Fin 128) : (((cfg5.win 2).blk k).view.emb (ix2 c 0) : S128x1.Idx) = ix2 c 0 := by
  have e := index5 k
  blk_ext [e, pt]

theorem at5_3 (k : Fin cfg5.N) (c : Fin 128) : (((cfg5.win 3).blk k).view.emb (ix2 c 0) : S128x1.Idx) = ix2 c 0 := by
  have e := index5 k
  blk_ext [e, pt]

theorem at5_4 (k : Fin cfg5.N) (c : Fin 128) : (((cfg5.win 4).blk k).view.emb (ix2 c 0) : S128x1.Idx) = ix2 c 0 := by
  have e := index5 k
  blk_ext [e, pt]

theorem at5_5 (k : Fin cfg5.N) (c : Fin 128) : (((cfg5.win 5).blk k).view.emb (ix2 c 0) : S128x1.Idx) = ix2 c 0 := by
  have e := index5 k
  blk_ext [e, pt]

theorem at5_6 (k : Fin cfg5.N) (c : Fin 128) (l : Fin 4096) : (((cfg5.win 6).blk k).view.emb (ix3 0 c l) : S4x128x8192.Idx) = ix3 (pt k l).1 c (pt k l).2 := by
  have e := index5 k
  blk_ext [e, pt]

theorem resid_congr {y s t z s' t' y₁ s₁ t₁ z₁ s₂ t₂ : EReal} (hy : y = y₁) (hs : s = s₁) (ht : t = t₁) (hz : z = z₁) (hs' : s' = s₂) (ht' : t' = t₂) :
    max (z * s' + t' + max (y * s + t) 0) 0 = max (z₁ * s₂ + t₂ + max (y₁ * s₁ + t₁) 0) 0 := by
  subst hy hs ht hz hs' ht'
  rfl

theorem arr5 (y z : Fin 128 → Spec.Pt → EReal) (s t s' t' : Fin 128 → EReal) (hz : ∀ c p, feat (W (Proc.devRef .tc main_v49_0)) c p = z c p)
    (hs' : ∀ c, col (W (Proc.devRef .tc main_v66)) c = s' c) (ht' : ∀ c, col (W (Proc.devRef .tc main_v67)) c = t' c)
    (hy : ∀ c p, feat (W (Proc.devRef .tc main_v9_0)) c p = y c p)
    (hs : ∀ c, col (W (Proc.devRef .tc main_v26)) c = s c) (ht : ∀ c, col (W (Proc.devRef .tc main_v27)) c = t c) (c : Fin 128) (p : Spec.Pt) :
    feat ((mkDat cfg5 d n W (after5 W)).arrAt 6 cfg5.N) c p = max (z c p * s' c + t' c + max (y c p * s c + t c) 0) 0 := by
  have h : (mkDat cfg5 d n W (after5 W)).arrAt 6 cfg5.N
      = (fun j => max (z (j 1) (j 0, j 2) * s' (j 1) + t' (j 1) + max (y (j 1) (j 0, j 2) * s (j 1) + t (j 1)) 0) 0 : FVec Ideal S4x128x8192 .f32) := by
    refine (mkDat cfg5 d n W (after5 W)).arrAt_eq_of_covers 6 _ (by decide +kernel) fun k hf j => ?_
    change S1x128x4096.Idx at j
    idx_vars j
    obtain rfl : j0 = 0 := Subsingleton.elim _ _
    have f0 : stg cfg5 W 0 k (ix3 0 j1 j2) = z j1 (pt k j2) := (congrArg (W (Proc.devRef .tc main_v49_0)) (at5_0 k j1 j2)).trans (hz _ _)
    have f1 : stg cfg5 W 1 k (ix3 0 j1 j2) = y j1 (pt k j2) := (congrArg (W (Proc.devRef .tc main_v9_0)) (at5_1 k j1 j2)).trans (hy _ _)
    have f2 : stg cfg5 W 2 k (ix2 j1 0) = s' j1 := (congrArg (W (Proc.devRef .tc main_v66)) (at5_2 k j1)).trans (hs' _)
    have f3 : stg cfg5 W 3 k (ix2 j1 0) = t' j1 := (congrArg (W (Proc.devRef .tc main_v67)) (at5_3 k j1)).trans (ht' _)
    have f4 : stg cfg5 W 4 k (ix2 j1 0) = s j1 := (congrArg (W (Proc.devRef .tc main_v26)) (at5_4 k j1)).trans (hs _)
    have f5 : stg cfg5 W 5 k (ix2 j1 0) = t j1 := (congrArg (W (Proc.devRef .tc main_v27)) (at5_5 k j1)).trans (ht _)
    refine (Pay.resid (stg cfg5 W 1 k) (stg cfg5 W 4 k) (stg cfg5 W 5 k) (stg cfg5 W 0 k) (stg cfg5 W 2 k) (stg cfg5 W 3 k) j1 j2).trans ?_
    refine (resid_congr f1 f4 f5 f0 f2 f3).trans ?_
    exact congrArg (fun j : S4x128x8192.Idx => max (z (j 1) (j 0, j 2) * s' (j 1) + t' (j 1) + max (y (j 1) (j 0, j 2) * s (j 1) + t (j 1)) 0) 0) (at5_6 k j1 j2).symm
  exact congrFun h (ix3 p.1 c p.2)

end Cert.Proof.Arr

end

end
-- ==== Proof.Fold.lean ====
/-
  What the host's operations between the calls leave, entry by entry, over the extended reals.
-/
module

public import proofs.«01_k».proof.Proof.Arr
public import Idealize.ShloMosaic.Lib.Pointwise
public import Idealize.ShloMosaic.Lib.Tactic.CleanTypes

@[expose] public section

set_option maxRecDepth 16384

noncomputable section

namespace Cert.Proof.Fold

open Cert.KernelIdeal Cert.KernelIdeal.Gen Cert.Proof.Run Cert.Proof.Arr Cert.Proof.Norm
open Idealize.ShloMosaic Idealize.ShloMosaic.TcCoe Idealize.ShloMosaic.StableHlo
open scoped BigOperators

/-- A vector's entry. -/
abbrev vec (f : FVec Ideal S128 .f32) (c : Fin 128) : EReal := f (ix1 c)

/-- The mean of one of the two sums. -/
def share₀ (x : FVec Ideal S2x128 .f32) : FVec Ideal S128 .f32 :=
  Host.divf (shapeCast S128 (extractStridedSlice S1x128 ![0, 0] x slices_S2x128_S1x128_0_0) shapeCasts_S1x128_S128) (broadcastInDim S128 ![] bcast_S_S128 (constant S_ .f32 0x47000000#32))
def share₁ (x : FVec Ideal S2x128 .f32) : FVec Ideal S128 .f32 :=
  Host.divf (shapeCast S128 (extractStridedSlice S1x128 ![1, 0] x slices_S2x128_S1x128_1_0) shapeCasts_S1x128_S128) (broadcastInDim S128 ![] bcast_S_S128 (constant S_ .f32 0x47000000#32))
/-- The scale. -/
def scale (x : FVec Ideal S2x128 .f32) (g : FVec Ideal S128 .f32) : FVec Ideal S128 .f32 :=
  Host.divf g (Host.sqrt (addf (subf (share₁ x) (mulf (share₀ x) (share₀ x))) (broadcastInDim S128 ![] bcast_S_S128 (constant S_ .f32 0x3727C5AC#32))))
/-- The shift. -/
def shift (x : FVec Ideal S2x128 .f32) (g b : FVec Ideal S128 .f32) : FVec Ideal S128 .f32 := subf b (mulf (share₀ x) (scale x g))
/-- A vector as a column. -/
def column (f : FVec Ideal S128 .f32) : FVec Ideal S128x1 .f32 := shapeCast S128x1 f shapeCasts_S128_S128x1

theorem column_at (f : FVec Ideal S128 .f32) (c : Fin 128) : col (column f) c = vec f c := by
  unfold col column
  pointwise

theorem share₀_at (x : FVec Ideal S2x128 .f32) (c : Fin 128) : vec (share₀ x) c = Ideal.div (sums x 0 c) (Ideal.ofBits FTy.f32 0x47000000#32) := by
  unfold vec share₀
  generalize (0x47000000#32 : BitVec 32) = w
  pointwise
theorem share₁_at (x : FVec Ideal S2x128 .f32) (c : Fin 128) : vec (share₁ x) c = Ideal.div (sums x 1 c) (Ideal.ofBits FTy.f32 0x47000000#32) := by
  unfold vec share₁
  generalize (0x47000000#32 : BitVec 32) = w
  pointwise

theorem scale_at (x : FVec Ideal S2x128 .f32) (g : FVec Ideal S128 .f32) (c : Fin 128) : vec (scale x g) c = factor (sums x 0 c) (sums x 1 c) (vec g c) := by
  unfold factor
  rw [← share₀_at, ← share₁_at]
  unfold scale vec
  generalize share₀ x = u, share₁ x = v, (0x3727C5AC#32 : BitVec 32) = w
  pointwise

theorem shift_at (x : FVec Ideal S2x128 .f32) (g b : FVec Ideal S128 .f32) (c : Fin 128) : vec (shift x g b) c = offset (sums x 0 c) (sums x 1 c) (vec g c) (vec b c) := by
  unfold offset
  rw [← share₀_at, ← scale_at]
  unfold shift vec
  generalize share₀ x = u, scale x g = v
  pointwise

variable (W : Vl Ideal)

theorem readC : after hostC W (Proc.devRef .tc main_v26) = column (scale (W (Proc.devRef .tc main_v9_1)) (W (Proc.devRef .tc main_arg6)))
    ∧ after hostC W (Proc.devRef .tc main_v27) = column (shift (W (Proc.devRef .tc main_v9_1)) (W (Proc.devRef .tc main_arg6)) (W (Proc.devRef .tc main_arg7)))
    ∧ after hostC W (Proc.devRef .tc main_v28) = column (W (Proc.devRef .tc main_arg9)) := by
  refine ⟨?_, ?_, ?_⟩ <;> (unfold hostC; after_results; try rfl)

theorem readD : after hostD W (Proc.devRef .tc main_v46) = column (scale (W (Proc.devRef .tc main_v29_1)) (W (Proc.devRef .tc main_arg10)))
    ∧ after hostD W (Proc.devRef .tc main_v47) = column (shift (W (Proc.devRef .tc main_v29_1)) (W (Proc.devRef .tc main_arg10)) (W (Proc.devRef .tc main_arg11)))
    ∧ after hostD W (Proc.devRef .tc main_v48) = column (W (Proc.devRef .tc main_arg13)) := by
  refine ⟨?_, ?_, ?_⟩ <;> (unfold hostD; after_results; try rfl)

theorem readE : after hostE₂ (after hostE₁ W) (Proc.devRef .tc main_v66) = column (scale (W (Proc.devRef .tc main_v49_1)) (W (Proc.devRef .tc main_arg14)))
    ∧ after hostE₂ (after hostE₁ W) (Proc.devRef .tc main_v67) = column (shift (W (Proc.devRef .tc main_v49_1)) (W (Proc.devRef .tc main_arg14)) (W (Proc.devRef .tc main_arg15))) := by
  refine ⟨?_, ?_⟩ <;> (unfold hostE₂ hostE₁; after_results; try rfl)

theorem readB (W : Vl Ideal) : after hostB W (Proc.devRef .tc main_v5) = shapeCast S4x3x8192x128 (W (Proc.devRef .tc main_v4) : FVec Ideal S98304x128 .f32) shapeCasts_S98304x128_S4x3x8192x128
    ∧ after hostB W (Proc.devRef .tc main_v6) = extractStridedSlice S128x64 ![0, 0] (W (Proc.devRef .tc main_arg4) : FVec Ideal S128x192 .f32) slices_S128x192_S128x64_0_0
    ∧ after hostB W (Proc.devRef .tc main_v7) = extractStridedSlice S128x128 ![0, 64] (W (Proc.devRef .tc main_arg4) : FVec Ideal S128x192 .f32) slices_S128x192_S128x128_0_64
    ∧ after hostB W (Proc.devRef .tc main_v8) = column (W (Proc.devRef .tc main_arg5)) := by
  refine ⟨?_, ?_, ?_, ?_⟩ <;> (unfold hostB; after_results; try rfl)

theorem readA (W : Vl Ideal) : after hostA W (Proc.devRef .tc main_v2)
      = shapeCast S8192x128 (transpose S4x2048x128 [0, 2, 1] (W (Proc.devRef .tc main_arg3) : FVec Ideal S4x128x2048 .f32) transposes_S4x128x2048_S4x2048x128_0_2_1) shapeCasts_S4x2048x128_S8192x128
    ∧ after hostA W (Proc.devRef .tc main_v3) = shapeCast S98304 (W (Proc.devRef .tc main_v0_0) : IVec S4x3x8192 32) shapeCasts_S4x3x8192_S98304 := by
  refine ⟨?_, ?_⟩ <;> (unfold hostA; after_results; try rfl)

/-- The row of the flattened table that row `s` of batch `b` became. -/
def flat (b : Fin 4) (s : Fin 2048) : Fin 8192 := ⟨b.val * 2048 + s.val, by omega⟩
/-- The flattened place of a neighbour. -/
def spot (b : Fin 4) (k : Fin 3) (n : Fin 8192) : Fin 98304 := ⟨(b.val * 3 + k.val) * 8192 + n.val, by omega⟩

theorem table_at (f : FVec Ideal S4x128x2048 .f32) (b : Fin 4) (s : Fin 2048) (i : Fin 128) :
    (shapeCast S8192x128 (transpose S4x2048x128 [0, 2, 1] f transposes_S4x128x2048_S4x2048x128_0_2_1) shapeCasts_S4x2048x128_S8192x128) (ix2 (flat b s) i) = f (ix3 b i s) := by
  pointwise [flat]

theorem list_at (f : IVec S4x3x8192 32) (b : Fin 4) (k : Fin 3) (n : Fin 8192) :
    (shapeCast S98304 f shapeCasts_S4x3x8192_S98304) (ix1 (spot b k n)) = f (ix3 b k n) := by
  pointwise [spot]

theorem regroup_at (f : FVec Ideal S98304x128 .f32) (b : Fin 4) (k : Fin 3) (n : Fin 8192) (i : Fin 128) :
    rows (shapeCast S4x3x8192x128 f shapeCasts_S98304x128_S4x3x8192x128) b k n i = f (ix2 (spot b k n) i) := by
  unfold rows
  pointwise [spot]
  exact congrArg (fun r : Fin 98304 => f (ix2 r i)) (Fin.ext (by show b.val * 24576 + k.val * 8192 + n.val = (b.val * 3 + k.val) * 8192 + n.val; omega))

theorem gath_at (I : IVec S98304 32) (X : FVec Ideal S8192x128 .f32) (r : Fin 98304) (i : Fin 128) (q : Fin 8192) (h : I (ix1 r) = BitVec.ofNat 32 q.val) :
    (gath (F := Ideal) I X : FVec Ideal S98304x128 .f32) (ix2 r i) = X (ix2 q i) := by
  have e : (Fin.ofNat 8192 (I (ix1 r)).toNat : Fin 8192) = q := by
    rw [h]
    refine Fin.ext ?_
    have := q.isLt
    simp only [BitVec.toNat_ofNat, Fin.val_ofNat]
    omega
  rw [← e]
  unfold gath
  refine congrArg X (funext fun a => ?_)
  match a with
  | ⟨0, _⟩ =>
    refine congrArg (fun j => (Fin.ofNat 8192 (I j).toNat : Fin 8192)) (funext fun b => ?_)
    match b with
    | ⟨0, _⟩ => rfl
  | ⟨1, _⟩ => rfl

theorem slice_lo (f : FVec Ideal S128x192 .f32) (o : Fin 128) (i : Fin 64) :
    mat₁ (extractStridedSlice S128x64 ![0, 0] f slices_S128x192_S128x64_0_0) o i = f (ix2 o (i.castLE (by decide))) := by
  unfold mat₁
  pointwise
  rfl

theorem slice_hi (f : FVec Ideal S128x192 .f32) (o : Fin 128) (i : Fin 128) :
    mat (extractStridedSlice S128x128 ![0, 64] f slices_S128x192_S128x128_0_64) o i = f (ix2 o (i.natAdd 64)) := by
  unfold mat
  pointwise
  rfl

end Cert.Proof.Fold

end

end
-- ==== Proof.Ker.lean ====
/-
  The kernel's result, read from its arguments: what the five regions, the gather and the host's operations between them leave is the specification.
-/
module

public import proofs.«01_k».proof.Proof.Fold

@[expose] public section

set_option maxRecDepth 16384

noncomputable section

namespace Cert.Proof.Ker

open Cert.KernelIdeal Cert.KernelIdeal.Gen Cert.Proof.Run Cert.Proof.Arr Cert.Proof.Norm Cert.Proof.Fold
open Idealize.ShloMosaic Idealize.ShloMosaic.TcCoe Idealize.ShloMosaic.StableHlo Idealize.ShloMosaic.Pipeline
open scoped BigOperators

/-- The arguments, read as functions. -/
def of (a0 : FVec Ideal S4x8192x3 .f32) (a1 : FVec Ideal S4x2048x3 .f32) (a2 : FVec Ideal S4x64x8192 .f32) (a3 : FVec Ideal S4x128x2048 .f32)
    (a4 : FVec Ideal S128x192 .f32) (a5 a6 a7 : FVec Ideal S128 .f32) (a8 : FVec Ideal S128x128 .f32) (a9 a10 a11 : FVec Ideal S128 .f32)
    (a12 : FVec Ideal S128x128 .f32) (a13 a14 a15 : FVec Ideal S128 .f32) : Spec.Args where
  xyz₁ b n e := a0 (ix3 b n e)
  xyz₂ b s e := a1 (ix3 b s e)
  feat₁ b i n := a2 (ix3 b i n)
  feat₂ b i s := a3 (ix3 b i s)
  w₁ o i := a4 (ix2 o i)
  c₁ o := a5 (ix1 o)
  g₁ o := a6 (ix1 o)
  b₁ o := a7 (ix1 o)
  w₂ o i := a8 (ix2 o i)
  c₂ o := a9 (ix1 o)
  g₂ o := a10 (ix1 o)
  b₂ o := a11 (ix1 o)
  w₃ o i := a12 (ix2 o i)
  c₃ o := a13 (ix1 o)
  g₃ o := a14 (ix1 o)
  b₃ o := a15 (ix1 o)

theorem place_at (A : Spec.Args) (b : Fin 4) (k : Fin 3) (n : Fin 8192) : place A (ix3 b k n) = BitVec.ofNat 32 (flat b (Spec.row A (b, n) k)).val := by
  show BitVec.ofNat 32 (Spec.row A (b, n) k).val + BitVec.ofNat 32 b.val * 2048#32 = BitVec.ofNat 32 (b.val * 2048 + (Spec.row A (b, n) k).val)
  rw [BitVec.ofNat_add, BitVec.ofNat_mul, BitVec.add_comm]

/-- One fold: the scale and the shift that a layer's sums give are the specification's normalisation. -/
theorem folded {y : Fin 128 → Spec.Pt → EReal} {g b : Fin 128 → EReal} (x : FVec Ideal S2x128 .f32) (u v : FVec Ideal S128 .f32)
    (hy : ∀ o p, IsReal (y o p)) (hg : ∀ o, IsReal (g o)) (h0 : ∀ c, sums x 0 c = ∑ p, y c p) (h1 : ∀ c, sums x 1 c = ∑ p, y c p * y c p)
    (hu : ∀ c, vec u c = g c) (hv : ∀ c, vec v c = b c) (c : Fin 128) (p : Spec.Pt) :
    y c p * col (column (scale x u)) c + col (column (shift x u v)) c = norm (y c) (g c) (b c) p := by
  rw [column_at, column_at, scale_at, shift_at, h0, h1, hu, hv]
  exact (two_ways Spec.card_points (y c) (hy c) (hg c) (b c) p).1

variable (m : (ℓ : Loc nD τ sig) → Buf (Elt Ideal) ℓ) (d : Dev nD)

/-- The arguments of a device. -/
def argsOf : Spec.Args :=
  of (V₀ m d (Proc.devRef .tc main_arg0)) (V₀ m d (Proc.devRef .tc main_arg1)) (V₀ m d (Proc.devRef .tc main_arg2)) (V₀ m d (Proc.devRef .tc main_arg3))
    (V₀ m d (Proc.devRef .tc main_arg4)) (V₀ m d (Proc.devRef .tc main_arg5)) (V₀ m d (Proc.devRef .tc main_arg6)) (V₀ m d (Proc.devRef .tc main_arg7))
    (V₀ m d (Proc.devRef .tc main_arg8)) (V₀ m d (Proc.devRef .tc main_arg9)) (V₀ m d (Proc.devRef .tc main_arg10)) (V₀ m d (Proc.devRef .tc main_arg11))
    (V₀ m d (Proc.devRef .tc main_arg12)) (V₀ m d (Proc.devRef .tc main_arg13)) (V₀ m d (Proc.devRef .tc main_arg14)) (V₀ m d (Proc.devRef .tc main_arg15))

variable (h : (argsOf m d).Real)
include h

theorem nearest : (∀ b k n, words (V₁ m d (Proc.devRef .tc main_v0_0)) b k n = BitVec.ofNat 32 (flat b (Spec.row (argsOf m d) (b, n) k)).val)
    ∧ ∀ b k n, shares (V₁ m d (Proc.devRef .tc main_v0_1)) b k n = Spec.weight (argsOf m d) (b, n) k := by
  have e2 : V₁ m d (Proc.devRef .tc main_v0_0) = (mkDat cfg0 d 0 (V₀ m d) (after0 (V₀ m d))).arrAt 2 cfg0.N := region_arr d cfg0 launch0.win.arr_inj 0 (V₀ m d) (after0 (V₀ m d)) 2
  have e3 : V₁ m d (Proc.devRef .tc main_v0_1) = (mkDat cfg0 d 0 (V₀ m d) (after0 (V₀ m d))).arrAt 3 cfg0.N := region_arr d cfg0 launch0.win.arr_inj 0 (V₀ m d) (after0 (V₀ m d)) 3
  have ha := arr0 d 0 (V₀ m d) (argsOf m d) (fun _ _ _ => rfl) (fun _ _ _ => rfl) (Spec.dist_lt h)
  refine ⟨fun b k n => ?_, fun b k n => ?_⟩
  · rw [e2]
    exact (ha (b, n) k).1.trans (place_at _ b k n)
  · rw [e3]
    exact (ha (b, n) k).2

theorem gathered (b : Fin 4) (k : Fin 3) (n : Fin 8192) (i : Fin 128) :
    rows (V₄ m d (Proc.devRef .tc main_v5)) b k n i = (argsOf m d).feat₂ b i (Spec.row (argsOf m d) (b, n) k) := by
  have e4 : V₄ m d (Proc.devRef .tc main_v5) = shapeCast S4x3x8192x128 (V₃ m d (Proc.devRef .tc main_v4) : FVec Ideal S98304x128 .f32) shapeCasts_S98304x128_S4x3x8192x128 := (readB (V₃ m d)).1
  have e3 : V₃ m d (Proc.devRef .tc main_v4) = gath (F := Ideal) (V₂ m d (Proc.devRef .tc main_v3)) (V₂ m d (Proc.devRef .tc main_v2)) := Function.update_self _ _ _
  have el : (V₂ m d (Proc.devRef .tc main_v3) : IVec S98304 32) (ix1 (spot b k n)) = BitVec.ofNat 32 (flat b (Spec.row (argsOf m d) (b, n) k)).val := by
    have e : V₂ m d (Proc.devRef .tc main_v3) = shapeCast S98304 (V₁ m d (Proc.devRef .tc main_v0_0) : IVec S4x3x8192 32) shapeCasts_S4x3x8192_S98304 := (readA (V₁ m d)).2
    rw [e]
    exact (list_at _ b k n).trans ((nearest m d h).1 b k n)
  have et (s) : (V₂ m d (Proc.devRef .tc main_v2) : FVec Ideal S8192x128 .f32) (ix2 (flat b s) i) = (argsOf m d).feat₂ b i s := by
    have e : V₂ m d (Proc.devRef .tc main_v2) = shapeCast S8192x128 (transpose S4x2048x128 [0, 2, 1] (V₁ m d (Proc.devRef .tc main_arg3) : FVec Ideal S4x128x2048 .f32) transposes_S4x128x2048_S4x2048x128_0_2_1) shapeCasts_S4x2048x128_S8192x128 := (readA (V₁ m d)).1
    rw [e, (arg_at m d main_arg3 (by decide)).1]
    exact table_at _ b s i
  rw [e4]
  refine (regroup_at _ b k n i).trans ?_
  rw [e3]
  exact (gath_at _ _ _ i _ el).trans (et _)

theorem first : (∀ c p, feat (V₅ m d (Proc.devRef .tc main_v9_0)) c p = Spec.y₁ (argsOf m d) c p)
    ∧ (∀ c, sums (V₅ m d (Proc.devRef .tc main_v9_1)) 0 c = ∑ p, Spec.y₁ (argsOf m d) c p)
    ∧ ∀ c, sums (V₅ m d (Proc.devRef .tc main_v9_1)) 1 c = ∑ p, Spec.y₁ (argsOf m d) c p * Spec.y₁ (argsOf m d) c p := by
  have e6 : V₅ m d (Proc.devRef .tc main_v9_0) = (mkDat cfg2 d 1 (V₄ m d) (after2 (V₄ m d))).arrAt 6 cfg2.N := region_arr d cfg2 launch2.win.arr_inj 1 (V₄ m d) (after2 (V₄ m d)) 6
  have e7 : V₅ m d (Proc.devRef .tc main_v9_1) = (mkDat cfg2 d 1 (V₄ m d) (after2 (V₄ m d))).arrAt 7 cfg2.N := region_arr d cfg2 launch2.win.arr_inj 1 (V₄ m d) (after2 (V₄ m d)) 7
  have a (r : Ref sig .tc) (hr : r ∈ args) (hb : r ∉ WB) : V₄ m d (Proc.devRef .tc r) = V₀ m d (Proc.devRef .tc r) := (keep₄ m d r hb).trans (arg_at m d r hr).2.1
  have a3 (r : Ref sig .tc) (hr : r ∈ args) : V₃ m d (Proc.devRef .tc r) = V₀ m d (Proc.devRef .tc r) := (arg_at m d r hr).2.1
  have ew : V₄ m d (Proc.devRef .tc main_v0_1) = V₁ m d (Proc.devRef .tc main_v0_1) :=
    (keep₄ m d main_v0_1 (by decide)).trans ((keep₃ m d main_v0_1 (by decide)).trans (keep₂ m d main_v0_1 (by decide)))
  have hl := lay2_at (V₄ m d) (fun b k n i => (argsOf m d).feat₂ b i (Spec.row (argsOf m d) (b, n) k)) (fun b k n => Spec.weight (argsOf m d) (b, n) k) (argsOf m d).feat₁
    (fun o i => (argsOf m d).w₁ o (i.castLE (by decide))) (fun o i => (argsOf m d).w₁ o (i.natAdd 64)) (argsOf m d).c₁ (gathered m d h)
    (fun b k n => by rw [ew]; exact (nearest m d h).2 b k n)
    (fun b i n => by rw [a main_arg2 (by decide) (by decide)]; rfl)
    (fun o i => by
      have e := (readB (V₃ m d)).2.1
      rw [a3 main_arg4 (by decide)] at e
      exact (congrArg (fun f => mat₁ f o i) e).trans (slice_lo _ o i))
    (fun o i => by
      have e := (readB (V₃ m d)).2.2.1
      rw [a3 main_arg4 (by decide)] at e
      exact (congrArg (fun f => mat f o i) e).trans (slice_hi _ o i))
    (fun c => by
      have e := (readB (V₃ m d)).2.2.2
      rw [a3 main_arg5 (by decide)] at e
      exact (congrArg (fun f => col f c) e).trans (column_at _ c))
  have ho := out2 d 1 (V₄ m d) (Spec.y₁ (argsOf m d)) hl
  rw [e6, e7]
  exact ho

/-- The scale and the shift of the first layer, where the second reads them. -/
theorem fold₁ : (∀ c p, Spec.y₁ (argsOf m d) c p * col (V₆ m d (Proc.devRef .tc main_v26)) c + col (V₆ m d (Proc.devRef .tc main_v27)) c
      = norm (Spec.y₁ (argsOf m d) c) ((argsOf m d).g₁ c) ((argsOf m d).b₁ c) p)
    ∧ ∀ c, col (V₆ m d (Proc.devRef .tc main_v28)) c = (argsOf m d).c₂ c := by
  obtain ⟨e0, e1, e2⟩ := readC (V₅ m d)
  have a (r : Ref sig .tc) (hr : r ∈ args) : V₅ m d (Proc.devRef .tc r) = V₀ m d (Proc.devRef .tc r) := (arg_at m d r hr).2.2.1
  rw [a main_arg6 (by decide)] at e0
  rw [a main_arg6 (by decide), a main_arg7 (by decide)] at e1
  rw [a main_arg9 (by decide)] at e2
  refine ⟨fun c p => ?_, fun c => (congrArg (fun f => col f c) e2).trans (column_at _ c)⟩
  refine (congrArg₂ (fun f f' : FVec Ideal S128x1 .f32 => Spec.y₁ (argsOf m d) c p * col f c + col f' c) e0 e1).trans ?_
  exact folded _ _ _ (Spec.y₁_real h) h.g₁ (first m d h).2.1 (first m d h).2.2 (fun _ => rfl) (fun _ => rfl) c p

theorem second : (∀ c p, feat (V₇ m d (Proc.devRef .tc main_v29_0)) c p = Spec.y₂ (argsOf m d) c p)
    ∧ (∀ c, sums (V₇ m d (Proc.devRef .tc main_v29_1)) 0 c = ∑ p, Spec.y₂ (argsOf m d) c p)
    ∧ ∀ c, sums (V₇ m d (Proc.devRef .tc main_v29_1)) 1 c = ∑ p, Spec.y₂ (argsOf m d) c p * Spec.y₂ (argsOf m d) c p := by
  have e5 : V₇ m d (Proc.devRef .tc main_v29_0) = (mkDat cfg3 d 1 (V₆ m d) (after3 (V₆ m d))).arrAt 5 cfg3.N := region_arr d cfg3 launch3.win.arr_inj 1 (V₆ m d) (after3 (V₆ m d)) 5
  have e6 : V₇ m d (Proc.devRef .tc main_v29_1) = (mkDat cfg3 d 1 (V₆ m d) (after3 (V₆ m d))).arrAt 6 cfg3.N := region_arr d cfg3 launch3.win.arr_inj 1 (V₆ m d) (after3 (V₆ m d)) 6
  have ey : V₆ m d (Proc.devRef .tc main_v9_0) = V₅ m d (Proc.devRef .tc main_v9_0) := keep₆ m d main_v9_0 (by decide)
  have ew : V₆ m d (Proc.devRef .tc main_arg8) = V₀ m d (Proc.devRef .tc main_arg8) := (keep₆ m d main_arg8 (by decide)).trans (arg_at m d main_arg8 (by decide)).2.2.1
  have hl (k : Fin 8) (c : Fin 128) (l : Fin 4096) : (lay3 (V₆ m d) k : FVec Ideal S128x4096 .f32) (ix2 c l) = Spec.y₂ (argsOf m d) c (pt k l) := by
    refine (lay3_at (V₆ m d) (Spec.y₁ (argsOf m d)) (fun c => col (V₆ m d (Proc.devRef .tc main_v26)) c) (fun c => col (V₆ m d (Proc.devRef .tc main_v27)) c) (argsOf m d).c₂ (argsOf m d).w₂
      (fun c p => by rw [ey]; exact (first m d h).1 c p) (fun _ => rfl) (fun _ => rfl) (fun o i => by rw [ew]; rfl) (fold₁ m d h).2 k c l).trans ?_
    exact congrArg (· + (argsOf m d).c₂ c) (Finset.sum_congr rfl fun i _ => congrArg (fun v => (argsOf m d).w₂ c i * max v 0) ((fold₁ m d h).1 i (pt k l)))
  have ho := out3 d 1 (V₆ m d) (Spec.y₂ (argsOf m d)) hl
  rw [e5, e6]
  exact ho

/-- The scale and the shift of the second layer, where the third reads them. -/
theorem fold₂ : (∀ c p, Spec.y₂ (argsOf m d) c p * col (V₈ m d (Proc.devRef .tc main_v46)) c + col (V₈ m d (Proc.devRef .tc main_v47)) c
      = norm (Spec.y₂ (argsOf m d) c) ((argsOf m d).g₂ c) ((argsOf m d).b₂ c) p)
    ∧ ∀ c, col (V₈ m d (Proc.devRef .tc main_v48)) c = (argsOf m d).c₃ c := by
  obtain ⟨e0, e1, e2⟩ := readD (V₇ m d)
  have a (r : Ref sig .tc) (hr : r ∈ args) : V₇ m d (Proc.devRef .tc r) = V₀ m d (Proc.devRef .tc r) := (arg_at m d r hr).2.2.2.1
  rw [a main_arg10 (by decide)] at e0
  rw [a main_arg10 (by decide), a main_arg11 (by decide)] at e1
  rw [a main_arg13 (by decide)] at e2
  refine ⟨fun c p => ?_, fun c => (congrArg (fun f => col f c) e2).trans (column_at _ c)⟩
  refine (congrArg₂ (fun f f' : FVec Ideal S128x1 .f32 => Spec.y₂ (argsOf m d) c p * col f c + col f' c) e0 e1).trans ?_
  exact folded _ _ _ (Spec.y₂_real h) h.g₂ (second m d h).2.1 (second m d h).2.2 (fun _ => rfl) (fun _ => rfl) c p

theorem third : (∀ c p, feat (V₉ m d (Proc.devRef .tc main_v49_0)) c p = Spec.y₃ (argsOf m d) c p)
    ∧ (∀ c, sums (V₉ m d (Proc.devRef .tc main_v49_1)) 0 c = ∑ p, Spec.y₃ (argsOf m d) c p)
    ∧ ∀ c, sums (V₉ m d (Proc.devRef .tc main_v49_1)) 1 c = ∑ p, Spec.y₃ (argsOf m d) c p * Spec.y₃ (argsOf m d) c p := by
  have e5 : V₉ m d (Proc.devRef .tc main_v49_0) = (mkDat cfg4 d 1 (V₈ m d) (after4 (V₈ m d))).arrAt 5 cfg4.N := region_arr d cfg4 launch4.win.arr_inj 1 (V₈ m d) (after4 (V₈ m d)) 5
  have e6 : V₉ m d (Proc.devRef .tc main_v49_1) = (mkDat cfg4 d 1 (V₈ m d) (after4 (V₈ m d))).arrAt 6 cfg4.N := region_arr d cfg4 launch4.win.arr_inj 1 (V₈ m d) (after4 (V₈ m d)) 6
  have ey : V₈ m d (Proc.devRef .tc main_v29_0) = V₇ m d (Proc.devRef .tc main_v29_0) := keep₈ m d main_v29_0 (by decide)
  have ew : V₈ m d (Proc.devRef .tc main_arg12) = V₀ m d (Proc.devRef .tc main_arg12) := (keep₈ m d main_arg12 (by decide)).trans (arg_at m d main_arg12 (by decide)).2.2.2.1
  have hl (k : Fin 8) (c : Fin 128) (l : Fin 4096) : (lay4 (V₈ m d) k : FVec Ideal S128x4096 .f32) (ix2 c l) = Spec.y₃ (argsOf m d) c (pt k l) := by
    refine (lay4_at (V₈ m d) (Spec.y₂ (argsOf m d)) (fun c => col (V₈ m d (Proc.devRef .tc main_v46)) c) (fun c => col (V₈ m d (Proc.devRef .tc main_v47)) c) (argsOf m d).c₃ (argsOf m d).w₃
      (fun c p => by rw [ey]; exact (second m d h).1 c p) (fun _ => rfl) (fun _ => rfl) (fun o i => by rw [ew]; rfl) (fold₂ m d h).2 k c l).trans ?_
    exact congrArg (· + (argsOf m d).c₃ c) (Finset.sum_congr rfl fun i _ => congrArg (fun v => (argsOf m d).w₃ c i * max v 0) ((fold₂ m d h).1 i (pt k l)))
  have ho := out4 d 1 (V₈ m d) (Spec.y₃ (argsOf m d)) hl
  rw [e5, e6]
  exact ho

theorem fold₃ (c : Fin 128) (p : Spec.Pt) : Spec.y₃ (argsOf m d) c p * col (V₁₀ m d (Proc.devRef .tc main_v66)) c + col (V₁₀ m d (Proc.devRef .tc main_v67)) c
    = norm (Spec.y₃ (argsOf m d) c) ((argsOf m d).g₃ c) ((argsOf m d).b₃ c) p := by
  obtain ⟨e0, e1⟩ := readE (V₉ m d)
  have a (r : Ref sig .tc) (hr : r ∈ args) : V₉ m d (Proc.devRef .tc r) = V₀ m d (Proc.devRef .tc r) := (arg_at m d r hr).2.2.2.2.1
  rw [a main_arg14 (by decide)] at e0
  rw [a main_arg14 (by decide), a main_arg15 (by decide)] at e1
  refine (congrArg₂ (fun f f' : FVec Ideal S128x1 .f32 => Spec.y₃ (argsOf m d) c p * col f c + col f' c) e0 e1).trans ?_
  exact folded _ _ _ (Spec.y₃_real h) h.g₃ (third m d h).2.1 (third m d h).2.2 (fun _ => rfl) (fun _ => rfl) c p

/-- The kernel's result, at a channel and a point. -/
theorem result (c : Fin 128) (p : Spec.Pt) : feat (V₁₁ m d (Proc.devRef .tc main_v68)) c p = Spec.out (argsOf m d) c p := by
  have e6 : V₁₁ m d (Proc.devRef .tc main_v68) = (mkDat cfg5 d 1 (V₁₀ m d) (after5 (V₁₀ m d))).arrAt 6 cfg5.N := region_arr d cfg5 launch5.win.arr_inj 1 (V₁₀ m d) (after5 (V₁₀ m d)) 6
  have k6 (r : Ref sig .tc) (h3 : r ∉ outs cfg3) (hd : r ∉ WD) (h4 : r ∉ outs cfg4) (he : r ∉ WE₁) (he' : r ∉ WE₂) : V₁₀ m d (Proc.devRef .tc r) = V₆ m d (Proc.devRef .tc r) :=
    (keep₁₀ m d r he he').trans ((keep₉ m d r h4).trans ((keep₈ m d r hd).trans (keep₇ m d r h3)))
  have ez : V₁₀ m d (Proc.devRef .tc main_v49_0) = V₉ m d (Proc.devRef .tc main_v49_0) := keep₁₀ m d main_v49_0 (by decide) (by decide)
  have ey : V₁₀ m d (Proc.devRef .tc main_v9_0) = V₅ m d (Proc.devRef .tc main_v9_0) :=
    (k6 main_v9_0 (by decide) (by decide) (by decide) (by decide) (by decide)).trans (keep₆ m d main_v9_0 (by decide))
  rw [e6]
  refine (arr5 d 1 (V₁₀ m d) (Spec.y₁ (argsOf m d)) (Spec.y₃ (argsOf m d)) (fun c => col (V₆ m d (Proc.devRef .tc main_v26)) c) (fun c => col (V₆ m d (Proc.devRef .tc main_v27)) c)
    (fun c => col (V₁₀ m d (Proc.devRef .tc main_v66)) c) (fun c => col (V₁₀ m d (Proc.devRef .tc main_v67)) c) (fun c p => by rw [ez]; exact (third m d h).1 c p) (fun _ => rfl) (fun _ => rfl)
    (fun c p => by rw [ey]; exact (first m d h).1 c p)
    (fun c => by rw [k6 main_v26 (by decide) (by decide) (by decide) (by decide) (by decide)])
    (fun c => by rw [k6 main_v27 (by decide) (by decide) (by decide) (by decide) (by decide)]) c p).trans ?_
  exact congrArg₂ (fun a b => max (a + max b 0) 0) (fold₃ m d h c p) ((fold₁ m d h).1 c p)

end Cert.Proof.Ker

end

end
-- ==== Proof.Finite.lean ====
/-
  Finite arguments are real numbers.
-/
module

public import proofs.«01_k».proof.Proof.Ker
public import proofs.«01_k».proof.Proof.Gen.Pre_finite
public import Idealize.ShloMosaic.Lib.ReduceAll

@[expose] public section

set_option maxRecDepth 16384

noncomputable section

namespace Cert.Proof.Finite

open Idealize.ShloMosaic Cert.Proof.Norm

/-- A value whose absolute value is below infinity is a real number. -/
theorem real_of_lt (x : EReal) (h : Ideal.cmp .olt (max x (-x)) (Ideal.ofBits FTy.f32 0x7F800000#32) = 1#1) : IsReal x := by
  have top : Ideal.ofBits FTy.f32 0x7F800000#32 = ⊤ := by simp [Ideal.ofBits, Ideal.ieee]
  rw [top] at h
  have lt : max x (-x) < ⊤ := by
    by_contra hn
    simp [Ideal.cmp, hn] at h
  refine ⟨x.toReal, (EReal.coe_toReal ?_ ?_).symm⟩
  · exact ((le_max_left _ _).trans_lt lt).ne
  · rintro rfl
    exact absurd ((le_max_right _ _).trans_lt lt) (by simp)

/-- A number alone has one index. -/
instance : Subsingleton (Cert.Pre_finite.S_).Idx := ⟨fun _ _ => funext fun a => a.elim0⟩

/-- An array whose absolute values are all below infinity holds real numbers. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant Cert.Pre_finite.S_ .f32 0x7F800000#32))) (constantI Cert.Pre_finite.S_ 1 1#1) hr hu j = 1#1)
    (i : s.Idx) : IsReal (x i) :=
  real_of_lt _ (Host.reduce_andi_all _ _ _ _ j h i)

open Cert.KernelIdeal Cert.KernelIdeal.Gen in
/-- Arguments that the precondition admits are real numbers. -/
theorem real_of_finite (a0 : FVec Ideal S4x8192x3 .f32) (a1 : FVec Ideal S4x2048x3 .f32) (a2 : FVec Ideal S4x64x8192 .f32) (a3 : FVec Ideal S4x128x2048 .f32)
    (a4 : FVec Ideal S128x192 .f32) (a5 a6 a7 : FVec Ideal S128 .f32) (a8 : FVec Ideal S128x128 .f32) (a9 a10 a11 : FVec Ideal S128 .f32)
    (a12 : FVec Ideal S128x128 .f32) (a13 a14 a15 : FVec Ideal S128 .f32)
    (h : Cert.Pre_finite.fn (F := Ideal) a0 a1 a2 a3 a4 a5 a6 a7 a8 a9 a10 a11 a12 a13 a14 a15 = fun _ => 1#1) :
    (Ker.of a0 a1 a2 a3 a4 a5 a6 a7 a8 a9 a10 a11 a12 a13 a14 a15).Real := by
  have e := congrFun h ix0
  unfold Cert.Pre_finite.fn Cert.Pre_finite.fn_part1 Cert.Pre_finite.fn_part2 Cert.Pre_finite.fn_part3 Cert.Pre_finite.fn_part4 at e
  simp only [andi, IntOp.andi_eq_one] at e
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := e
  exact
    { xyz₁ := fun _ _ _ => all_real _ _ _ _ _ h0 _
      xyz₂ := fun _ _ _ => all_real _ _ _ _ _ h1 _
      feat₁ := fun _ _ _ => all_real _ _ _ _ _ h2 _
      feat₂ := fun _ _ _ => all_real _ _ _ _ _ h3 _
      w₁ := fun _ _ => all_real _ _ _ _ _ h4 _
      c₁ := fun _ => all_real _ _ _ _ _ h5 _
      g₁ := fun _ => all_real _ _ _ _ _ h6 _
      b₁ := fun _ => all_real _ _ _ _ _ h7 _
      w₂ := fun _ _ => all_real _ _ _ _ _ h8 _
      c₂ := fun _ => all_real _ _ _ _ _ h9 _
      g₂ := fun _ => all_real _ _ _ _ _ h10 _
      b₂ := fun _ => all_real _ _ _ _ _ h11 _
      w₃ := fun _ _ => all_real _ _ _ _ _ h12 _
      c₃ := fun _ => all_real _ _ _ _ _ h13 _
      g₃ := fun _ => all_real _ _ _ _ _ h14 _ }

end Cert.Proof.Finite

end

end
-- ==== Proof.Ref.lean ====
/-
  The reference, read as mathematics: the sort gives the nearest rows in order, the gather reads them, and every channel is normalised.
-/
module

public import proofs.«01_k».proof.Proof.Spec
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.Ref

open Cert.ReferenceIdeal Cert.ReferenceIdeal.Gen Cert.Proof.Norm Cert.ReferenceIdeal.Value
open Idealize.ShloMosaic Idealize.ShloMosaic.TcCoe Idealize.ShloMosaic.StableHlo
open scoped BigOperators

/-- The sum of a channel. -/
def total (y : FVec Ideal S4x128x8192 .f32) : FVec Ideal S128 .f32 :=
  Host.reduceAdd y (constant S_ .f32 0x00000000#32) reducesTo_S4x128x8192_S128_d0_2 h_S_

theorem total_at (y : FVec Ideal S4x128x8192 .f32) (c : Fin 128) : total y (ix1 c) = ∑ p : Spec.Pt, y (ix3 p.1 c p.2) := by
  have e : total y (ix1 c) = Ideal.hostReduceAdd reducesTo_S4x128x8192_S128_d0_2 y 0 (ix1 c) := by
    unfold total
    clean_types
    pointwise
  rw [e]
  unfold Ideal.hostReduceAdd
  rw [zero_add]
  symm
  refine Finset.sum_bij (fun (p : Spec.Pt) _ => (ix3 p.1 c p.2 : S4x128x8192.Idx)) ?_ ?_ ?_ fun _ _ => rfl
  · intro p _
    refine Finset.mem_filter.mpr ⟨Finset.mem_univ _, funext fun a => Fin.ext ?_⟩
    match a with
    | ⟨0, _⟩ => rfl
  · intro p _ q _ h
    exact Prod.ext (congrFun h 0) (congrFun h 2)
  · intro i hi
    have h := congrArg Fin.val (congrFun (Finset.mem_filter.mp hi).2 0)
    refine ⟨(i 0, i 2), Finset.mem_univ _, funext fun a => Fin.ext ?_⟩
    match a with
    | ⟨0, _⟩ => rfl
    | ⟨1, _⟩ => exact h.symm
    | ⟨2, _⟩ => rfl

/-- A channel's value at every point. -/
def spread (v : FVec Ideal S1x128x1 .f32) : FVec Ideal S4x128x8192 .f32 := broadcastInDim S4x128x8192 ![0, 1, 2] bcast_S1x128x1_S4x128x8192_0_1_2 v
def lift (v : FVec Ideal S128 .f32) : FVec Ideal S1x128x1 .f32 := broadcastInDim S1x128x1 ![1] bcast_S128_S1x128x1_1 v

theorem spread_at (v : FVec Ideal S1x128x1 .f32) (b : Fin 4) (c : Fin 128) (n : Fin 8192) : spread v (ix3 b c n) = v (ix3 0 c 0) := by
  unfold spread
  pointwise
theorem lift_at (v : FVec Ideal S128 .f32) (c : Fin 128) : lift v (ix3 0 c 0) = v (ix1 c) := by
  unfold lift
  pointwise

/-- A number for every channel. -/
def fill (v : FVec Ideal S_ .f32) : FVec Ideal S1x128x1 .f32 := broadcastInDim S1x128x1 ![] bcast_S_S1x128x1 v
theorem fill_at (v : FVec Ideal S_ .f32) (c : Fin 128) : fill v (ix3 0 c 0) = v ix0 := by
  unfold fill
  pointwise

/-- The number of points. -/
def points : FVec Ideal S_ .f32 := subf (constant S_ .f32 0x47000000#32) (sitofp .f32 (constantI S_ 32 0#32))
theorem points_at : points ix0 = Ideal.ofBits FTy.f32 0x47000000#32 := by
  unfold points
  generalize (0x47000000#32 : BitVec 32) = w
  pointwise
  have e : (FloatOps.sitofp FTy.f32 (0#32 : BitVec 32) : Ideal .f32) = (0 : EReal) := by
    show (((0#32 : BitVec 32).toInt : ℝ) : EReal) = 0
    simp
  rw [e]
  exact sub_zero _

theorem choose_at (a b : FVec Ideal S1x128x1 .f32) (c : Fin 128) :
    select (broadcastInDim S1x128x1 ![] bcast_S_S1x128x1 (cmpf .ogt points (constant S_ .f32 0x00000000#32))) a b (ix3 0 c 0) = a (ix3 0 c 0) := by
  have h : (0 : EReal) < points ix0 := by
    rw [points_at, count]
    exact EReal.coe_pos.mpr (by norm_num)
  generalize points = u at h
  pointwise
  exact if_pos h

/-- The mean of every channel. -/
def means (y : FVec Ideal S4x128x8192 .f32) : FVec Ideal S1x128x1 .f32 := Host.divf (lift (total y)) (fill (constant S_ .f32 0x47000000#32))
/-- The squared differences. -/
def squares (y : FVec Ideal S4x128x8192 .f32) : FVec Ideal S4x128x8192 .f32 := mulf (subf y (spread (means y))) (subf y (spread (means y)))
/-- The variance of every channel. -/
def variances (y : FVec Ideal S4x128x8192 .f32) : FVec Ideal S1x128x1 .f32 :=
  select (broadcastInDim S1x128x1 ![] bcast_S_S1x128x1 (cmpf .ogt points (constant S_ .f32 0x00000000#32))) (Host.divf (lift (total (squares y))) (fill points))
    (fill (id (constant S_ .f32 0x7FC00000#32)))
/-- Normalising every channel. -/
def bn (y : FVec Ideal S4x128x8192 .f32) (g b : FVec Ideal S128 .f32) : FVec Ideal S4x128x8192 .f32 :=
  addf (Host.divf (mulf (spread (lift g)) (subf y (spread (means y)))) (spread (Host.sqrt (addf (variances y) (fill (constant S_ .f32 0x3727C5AC#32))))))
    (spread (lift b))

/-- A channel, over the points. -/
abbrev chan (y : FVec Ideal S4x128x8192 .f32) (c : Fin 128) : Spec.Pt → EReal := fun p => y (ix3 p.1 c p.2)

theorem word_at (w : BitVec 32) : (constant S_ .f32 w : FVec Ideal S_ .f32) ix0 = Ideal.ofBits FTy.f32 w := rfl

theorem means_at (y : FVec Ideal S4x128x8192 .f32) (c : Fin 128) : means y (ix3 0 c 0) = mean (chan y c) := by
  show Ideal.div (lift (total y) (ix3 0 c 0)) (fill _ (ix3 0 c 0)) = _
  rw [lift_at, fill_at, total_at]
  rfl

theorem less_at (y : FVec Ideal S4x128x8192 .f32) (b : Fin 4) (c : Fin 128) (n : Fin 8192) :
    subf y (spread (means y)) (ix3 b c n) = chan y c (b, n) - mean (chan y c) := by
  show y (ix3 b c n) - spread (means y) (ix3 b c n) = _
  rw [spread_at, means_at]

theorem variances_at (y : FVec Ideal S4x128x8192 .f32) (c : Fin 128) :
    variances y (ix3 0 c 0) = Ideal.div (∑ q, (chan y c q - mean (chan y c)) * (chan y c q - mean (chan y c))) (Ideal.ofBits FTy.f32 0x47000000#32) := by
  refine (choose_at _ _ c).trans ?_
  show Ideal.div (lift (total (squares y)) (ix3 0 c 0)) (fill points (ix3 0 c 0)) = _
  rw [lift_at, fill_at, total_at, points_at]
  refine congrArg (fun s => Ideal.div s _) (Finset.sum_congr rfl fun q _ => ?_)
  exact congrArg₂ (· * ·) (less_at y q.1 c q.2) (less_at y q.1 c q.2)

theorem bn_at (y : FVec Ideal S4x128x8192 .f32) (g b : FVec Ideal S128 .f32) (c : Fin 128) (p : Spec.Pt) :
    chan (bn y g b) c p = norm (chan y c) (g (ix1 c)) (b (ix1 c)) p := by
  show Ideal.div (spread (lift g) (ix3 p.1 c p.2) * subf y (spread (means y)) (ix3 p.1 c p.2))
      (spread (Host.sqrt (addf (variances y) (fill (constant S_ .f32 0x3727C5AC#32)))) (ix3 p.1 c p.2)) + spread (lift b) (ix3 p.1 c p.2) = _
  rw [spread_at, spread_at, spread_at, lift_at, lift_at, less_at]
  show Ideal.div _ (Ideal.sqrt (variances y (ix3 0 c 0) + fill (constant S_ .f32 0x3727C5AC#32) (ix3 0 c 0))) + _ = _
  rw [variances_at, fill_at]
  rfl

/-- A product with a weight matrix, and a bias. -/
def dense (z : FVec Ideal S4x128x8192 .f32) (w : FVec Ideal S128x128 .f32) (b : FVec Ideal S128 .f32) : FVec Ideal S4x128x8192 .f32 :=
  addf (transpose S4x128x8192 [0, 2, 1] (Host.dotGeneral dot_S4x128x8192_S128x128_S4x8192x128_1_1_02_0_n_n none z w) transposes_S4x8192x128_S4x128x8192_0_2_1) (broadcastInDim S4x128x8192 ![0, 1, 2] bcast_S1x128x1_S4x128x8192_0_1_2 (broadcastInDim S1x128x1 ![1] bcast_S128_S1x128x1_1 b))

theorem dense_at (z : FVec Ideal S4x128x8192 .f32) (w : FVec Ideal S128x128 .f32) (v : FVec Ideal S128 .f32) (b : Fin 4) (c : Fin 128) (n : Fin 8192) :
    dense z w v (ix3 b c n) = (∑ i : Fin 128, z (ix3 b i n) * w (ix2 c i)) + v (ix1 c) := by
  unfold dense
  clean_types
  pointwise

def fuse (p : FVec Ideal S4x8192x64 .f32) (q : FVec Ideal S4x8192x128 .f32) (w : FVec Ideal S128x192 .f32) (b : FVec Ideal S128 .f32) : FVec Ideal S4x128x8192 .f32 :=
  addf (transpose S4x128x8192 [0, 2, 1] (Host.dotGeneral dot_S4x192x8192_S128x192_S4x8192x128_1_1_02_0_n_n none (transpose S4x192x8192 [0, 2, 1] (concatenate S4x8192x192 2 [⟨S4x8192x64, p⟩, ⟨S4x8192x128, q⟩] concatenates_S4x8192x64_S4x8192x128_S4x8192x192_d2) transposes_S4x8192x192_S4x192x8192_0_2_1) w) transposes_S4x8192x128_S4x128x8192_0_2_1) (broadcastInDim S4x128x8192 ![0, 1, 2] bcast_S1x128x1_S4x128x8192_0_1_2 (broadcastInDim S1x128x1 ![1] bcast_S128_S1x128x1_1 b))

theorem fuse_at (p : FVec Ideal S4x8192x64 .f32) (q : FVec Ideal S4x8192x128 .f32) (w : FVec Ideal S128x192 .f32) (v : FVec Ideal S128 .f32) (b : Fin 4) (c : Fin 128) (n : Fin 8192) :
    fuse p q w v (ix3 b c n) = ((∑ i : Fin 64, p (ix3 b n i) * w (ix2 c (i.castLE (by decide)))) + ∑ i : Fin 128, q (ix3 b n i) * w (ix2 c (i.natAdd 64))) + v (ix1 c) := by
  unfold fuse
  clean_types
  pointwise
  rfl

/-- The gather's description. -/
abbrev G := gather_S4x2048x128_S4x8192x3x2_S4x8192x3x128_3_01_n_n_01_3_11128

theorem slot_at (b : Fin 4) (n : Fin 8192) (k : Fin 3) (i : Fin 128) (c : Fin G.startIndexMap.length) : G.siIdx (ix4 b n k i) c = ix4 b n k (c : Fin 2) := by
  funext a
  match a with
  | ⟨0, _⟩ => rfl
  | ⟨1, _⟩ => rfl
  | ⟨2, _⟩ => rfl
  | ⟨3, _⟩ => rfl

theorem clamp (r n : ℕ) (h : r ≤ n) (hn : n < 2147483648) : min (BitVec.ofNat 32 r).toInt.toNat n = r := by
  have e : (BitVec.ofNat 32 r).toInt = (r : ℤ) := by
    rw [BitVec.toInt_eq_toNat_of_lt (by rw [BitVec.toNat_ofNat]; omega), BitVec.toNat_ofNat]
    omega
  rw [e, Int.toNat_natCast]
  omega

theorem gather_at (x : FVec Ideal S4x2048x128 .f32) (idx : IVec S4x8192x3x2 32) (b : Fin 4) (n : Fin 8192) (k : Fin 3) (i : Fin 128) (r : Fin 4) (s : Fin 2048)
    (h0 : idx (ix4 b n k 0) = BitVec.ofNat 32 r.val) (h1 : idx (ix4 b n k 1) = BitVec.ofNat 32 s.val) :
    Host.gather G x idx (ix4 b n k i) = x (ix3 r s i) := by
  have hr := r.isLt
  have hs := s.isLt
  refine congrArg x (funext fun a => Fin.ext ?_)
  match a with
  | ⟨0, _⟩ =>
    show G.start (ix4 b n k i) idx 0 + G.batchCoord (ix4 b n k i) 0 + G.offCoord (ix4 b n k i) 0 = r.val
    rw [GatherDims.batchCoord_eq_zero _ _ _ (by decide), GatherDims.offCoord_eq_zero _ _ _ (by decide)]
    unfold GatherDims.start
    rw [dif_pos (by decide), slot_at]
    refine (congrArg (fun w => min w.toInt.toNat 3) h0).trans ?_
    exact clamp _ _ (by omega) (by omega)
  | ⟨1, _⟩ =>
    show G.start (ix4 b n k i) idx 1 + G.batchCoord (ix4 b n k i) 1 + G.offCoord (ix4 b n k i) 1 = s.val
    rw [GatherDims.batchCoord_eq_zero _ _ _ (by decide), GatherDims.offCoord_eq_zero _ _ _ (by decide)]
    unfold GatherDims.start
    rw [dif_pos (by decide), slot_at]
    refine (congrArg (fun w => min w.toInt.toNat 2047) h1).trans ?_
    exact clamp _ _ (by omega) (by omega)
  | ⟨2, _⟩ =>
    show G.start (ix4 b n k i) idx 2 + G.batchCoord (ix4 b n k i) 2 + G.offCoord (ix4 b n k i) 2 = i.val
    rw [GatherDims.batchCoord_eq_zero _ _ _ (by decide)]
    unfold GatherDims.start GatherDims.offCoord
    rw [dif_neg (by decide), dif_pos (by decide)]
    show 0 + 0 + i.val = i.val
    omega

theorem never (a : EReal) : Ideal.cmp CmpFPredicate.une a a = 0 := by
  simp [Ideal.cmp]

theorem zero_or (a : EReal) (z : EReal) : (if Ideal.cmp CmpFPredicate.oeq a z = 1 then z else a) = a := by
  by_cases h : a = z
  · subst h
    exact ite_self _
  · exact if_neg (by simp [Ideal.cmp, h])

theorem below_at (l r : Ideal .f32) : (comparator_f32_d2 (F := Ideal) l r == 1#1) = decide ((l : EReal) < r) := by
  unfold comparator_f32_d2
  simp only [FloatOps.cmpf, Scalar.select, never, zero_or]
  show (BitVec.ofBool (decide ((l : EReal) < r)) == 1#1) = _
  by_cases h : (l : EReal) < r <;> simp [h]

theorem below_pair (l r : Ideal .f32) (i j : BitVec 32) : (comparator_f32_i32_d2 (F := Ideal) (l, i) (r, j) == 1#1) = decide ((l : EReal) < r) :=
  below_at l r

/-! ## The nearest rows -/

theorem along_at (b : Fin 4) (n : Fin 8192) (s k : Fin 2048) : Shape.Idx.along (s := S4x8192x2048) (ix3 b n s) (2 : Fin 3) k = ix3 b n k := by
  funext a
  match a with
  | ⟨0, _⟩ => rfl
  | ⟨1, _⟩ => rfl
  | ⟨2, _⟩ => rfl

theorem sort_at (x : FVec Ideal S4x8192x2048 .f32) (b : Fin 4) (n : Fin 8192) (s : Fin 2048) :
    Host.sort S4x8192x2048 2 comparator_f32_d2 x (ix3 b n s)
      = x (ix3 b n (sortedFrom (fun i j => decide ((x (ix3 b n i) : EReal) < x (ix3 b n j))) s)) := by
  unfold Host.sort
  rw [dif_pos (by decide)]
  show x (Shape.Idx.along (s := S4x8192x2048) (ix3 b n s) (2 : Fin 3) (sortedFrom (n := 2048) (fun k k' =>
    comparator_f32_d2 (F := Ideal) (x (Shape.Idx.along (s := S4x8192x2048) (ix3 b n s) (2 : Fin 3) k)) (x (Shape.Idx.along (s := S4x8192x2048) (ix3 b n s) (2 : Fin 3) k')) == 1#1) s)) = _
  simp only [along_at, below_at]

theorem sort_with (x : FVec Ideal S4x8192x2048 .f32) (y : IVec S4x8192x2048 32) (b : Fin 4) (n : Fin 8192) (s : Fin 2048) :
    (Host.sort2 S4x8192x2048 2 comparator_f32_i32_d2 x y).2 (ix3 b n s)
      = y (ix3 b n (sortedFrom (fun i j => decide ((x (ix3 b n i) : EReal) < x (ix3 b n j))) s)) := by
  unfold Host.sort2
  rw [dif_pos (by decide)]
  show y (Shape.Idx.along (s := S4x8192x2048) (ix3 b n s) (2 : Fin 3) (sortedFrom (n := 2048) (fun k k' =>
    comparator_f32_i32_d2 (F := Ideal) (x (Shape.Idx.along (s := S4x8192x2048) (ix3 b n s) (2 : Fin 3) k), y (Shape.Idx.along (s := S4x8192x2048) (ix3 b n s) (2 : Fin 3) k)) (x (Shape.Idx.along (s := S4x8192x2048) (ix3 b n s) (2 : Fin 3) k'), y (Shape.Idx.along (s := S4x8192x2048) (ix3 b n s) (2 : Fin 3) k')) == 1#1) s)) = _
  simp only [along_at, below_pair]

theorem first_at {α : Type} (x : S4x8192x2048.Idx → α) (b : Fin 4) (n : Fin 8192) (k : Fin 3) :
    extractStridedSlice S4x8192x3 ![0, 0, 0] x slices_S4x8192x2048_S4x8192x3_0_0_0 (ix3 b n k) = x (ix3 b n (k.castLE (by decide))) := by
  refine congrArg x (funext fun a => Fin.ext ?_)
  match a with
  | ⟨0, _⟩ => exact Nat.zero_add _
  | ⟨1, _⟩ => exact Nat.zero_add _
  | ⟨2, _⟩ => exact Nat.zero_add _

/-- One over a distance, kept off zero. -/
def inverse (d : FVec Ideal S4x8192x3 .f32) : FVec Ideal S4x8192x3 .f32 :=
  Host.divf (broadcastInDim S4x8192x3 ![] bcast_S_S4x8192x3 (constant S_ .f32 0x3F800000#32)) (addf d (broadcastInDim S4x8192x3 ![] bcast_S_S4x8192x3 (constant S_ .f32 0x322BCC77#32)))

theorem inverse_at (d : FVec Ideal S4x8192x3 .f32) (b : Fin 4) (n : Fin 8192) (k : Fin 3) : inverse d (ix3 b n k) = Pay.recip (d (ix3 b n k)) := by
  show Ideal.div (Ideal.ofBits FTy.f32 0x3F800000#32) (d (ix3 b n k) + Ideal.ofBits FTy.f32 0x322BCC77#32) = _
  rw [Ideal.ofBits_one_f32]
  rfl

/-- The shares of three numbers. -/
def shares (v : FVec Ideal S4x8192x3 .f32) : FVec Ideal S4x8192x3 .f32 :=
  Host.divf v (broadcastInDim S4x8192x3 ![0, 1, 2] bcast_S4x8192x1_S4x8192x3_0_1_2 (broadcastInDim S4x8192x1 ![0, 1] bcast_S4x8192_S4x8192x1_0_1 (Host.reduceAdd v (constant S_ .f32 0x00000000#32) reducesTo_S4x8192x3_S4x8192_d2 h_S_)))

theorem shares_at (v : FVec Ideal S4x8192x3 .f32) (b : Fin 4) (n : Fin 8192) (k : Fin 3) :
    shares v (ix3 b n k) = Ideal.div (v (ix3 b n k)) (v (ix3 b n 0) + v (ix3 b n 1) + v (ix3 b n 2)) := by
  have e : shares v (ix3 b n k) = Ideal.div (v (ix3 b n k)) (∑ k : Fin 3, v (ix3 b n k)) := by
    unfold shares
    clean_types
    pointwise
  rw [e, Fin.sum_univ_three]

/-- Three rows of features, weighed and added up. -/
def blend (g : FVec Ideal S4x8192x3x128 .f32) (w : FVec Ideal S4x8192x3 .f32) : FVec Ideal S4x8192x128 .f32 :=
  Host.reduceAdd (mulf g (broadcastInDim S4x8192x3x128 ![0, 1, 2, 3] bcast_S4x8192x3x1_S4x8192x3x128_0_1_2_3 (broadcastInDim S4x8192x3x1 ![0, 1, 2] bcast_S4x8192x3_S4x8192x3x1_0_1_2 w))) (constant S_ .f32 0x00000000#32) reducesTo_S4x8192x3x128_S4x8192x128_d2 h_S_

theorem blend_at (g : FVec Ideal S4x8192x3x128 .f32) (w : FVec Ideal S4x8192x3 .f32) (b : Fin 4) (n : Fin 8192) (i : Fin 128) :
    blend g w (ix3 b n i) = g (ix4 b n 0 i) * w (ix3 b n 0) + g (ix4 b n 1 i) * w (ix3 b n 1) + g (ix4 b n 2 i) * w (ix3 b n 2) := by
  have e : blend g w (ix3 b n i) = ∑ k : Fin 3, g (ix4 b n k i) * w (ix3 b n k) := by
    unfold blend
    clean_types
    pointwise
  rw [e, Fin.sum_univ_three]

/-- Rows counted from the end where the number is negative. -/
def wrapRow (r : IVec S4x8192x3 32) : IVec S4x8192x3 32 :=
  select (cmpi .slt r (broadcastInDim S4x8192x3 ![] bcast_S_S4x8192x3 (constantI S_ 32 0#32))) (addi r (broadcastInDim S4x8192x3 ![] bcast_S_S4x8192x3 (constantI S_ 32 2048#32))) r
/-- The same of batches. -/
def wrapBatch (r : IVec S4x1x1 32) : IVec S4x1x1 32 :=
  select (cmpi .slt r (broadcastInDim S4x1x1 ![] bcast_S_S4x1x1 (constantI S_ 32 0#32))) (addi r (broadcastInDim S4x1x1 ![] bcast_S_S4x1x1 (constantI S_ 32 4#32))) r
/-- A batch and a row for every feature read. -/
def pairs (u : IVec S4x1x1 32) (r : IVec S4x8192x3 32) : IVec S4x8192x3x2 32 :=
  concatenate S4x8192x3x2 3 [⟨S4x8192x3x1, (broadcastInDim S4x8192x3x1 ![0, 1, 2] bcast_S4x8192x3_S4x8192x3x1_0_1_2 (broadcastInDim S4x8192x3 ![0, 1, 2] bcast_S4x1x1_S4x8192x3_0_1_2 u))⟩, ⟨S4x8192x3x1, (broadcastInDim S4x8192x3x1 ![0, 1, 2] bcast_S4x8192x3_S4x8192x3x1_0_1_2 r)⟩] concatenates_S4x8192x3x1_S4x8192x3x1_S4x8192x3x2_d3

theorem kept (r : ℕ) (h : r < 2147483648) (a : BitVec 32) : (if IntOp.cmpi .slt (BitVec.ofNat 32 r) 0#32 = 1#1 then a else BitVec.ofNat 32 r) = BitVec.ofNat 32 r := by
  refine if_neg ?_
  have e : (BitVec.ofNat 32 r).toInt = (r : ℤ) := by
    rw [BitVec.toInt_eq_toNat_of_lt (by rw [BitVec.toNat_ofNat]; omega), BitVec.toNat_ofNat]
    omega
  have : BitVec.slt (BitVec.ofNat 32 r) 0#32 = false := by
    rw [BitVec.slt, e]
    simp
  show ¬ BitVec.ofBool (BitVec.slt (BitVec.ofNat 32 r) 0#32) = 1#1
  rw [this]
  decide

theorem wrapRow_at (v : IVec S4x8192x3 32) (b : Fin 4) (n : Fin 8192) (k : Fin 3) (s : Fin 2048) (h : v (ix3 b n k) = BitVec.ofNat 32 s.val) :
    wrapRow v (ix3 b n k) = BitVec.ofNat 32 s.val := by
  show (if IntOp.cmpi .slt (v (ix3 b n k)) 0#32 = 1#1 then _ else v (ix3 b n k)) = _
  rw [h]
  exact kept _ (by have := s.isLt; omega) _

theorem wrapBatch_at (v : IVec S4x1x1 32) (b : Fin 4) (h : v (ix3 b 0 0) = BitVec.ofNat 32 b.val) : wrapBatch v (ix3 b 0 0) = BitVec.ofNat 32 b.val := by
  show (if IntOp.cmpi .slt (v (ix3 b 0 0)) 0#32 = 1#1 then _ else v (ix3 b 0 0)) = _
  rw [h]
  exact kept _ (by have := b.isLt; omega) _

theorem pairs_0 (u : IVec S4x1x1 32) (r : IVec S4x8192x3 32) (b : Fin 4) (n : Fin 8192) (k : Fin 3) : pairs u r (ix4 b n k 0) = u (ix3 b 0 0) := by
  unfold pairs
  clean_types
  pointwise
theorem pairs_1 (u : IVec S4x1x1 32) (r : IVec S4x8192x3 32) (b : Fin 4) (n : Fin 8192) (k : Fin 3) : pairs u r (ix4 b n k 1) = r (ix3 b n k) := by
  unfold pairs
  clean_types
  pointwise

theorem v13_at (V : Valuation τ sig (Elt Ideal)) (A : Spec.Args) (hx : ∀ b n e, (V (Proc.devRef .tc main_arg0) : FVec Ideal S4x8192x3 .f32) (ix3 b n e) = A.xyz₁ b n e)
    (hy : ∀ b n e, (V (Proc.devRef .tc main_arg1) : FVec Ideal S4x2048x3 .f32) (ix3 b n e) = A.xyz₂ b n e) (b : Fin 4) (n : Fin 8192) (s : Fin 2048) :
    (res_main_v13 V : FVec Ideal S4x8192x2048 .f32) (ix3 b n s) = Spec.dist A (b, n) s := by
  unfold res_main_v13 Spec.dist
  simp only [← hx, ← hy]
  generalize (V (Proc.devRef .tc main_arg0) : FVec Ideal S4x8192x3 .f32) = x, (V (Proc.devRef .tc main_arg1) : FVec Ideal S4x2048x3 .f32) = y, (0xC0000000#32 : BitVec 32) = w
  clean_types
  pointwise

/-! ## The reference's values, of the arguments -/

/-- Buffers that hold the arguments. -/
structure Holds (V : Valuation τ sig (Elt Ideal)) (A : Spec.Args) : Prop where
  xyz₁ : ∀ b n e, (V (Proc.devRef .tc main_arg0) : FVec Ideal S4x8192x3 .f32) (ix3 b n e) = A.xyz₁ b n e
  xyz₂ : ∀ b n e, (V (Proc.devRef .tc main_arg1) : FVec Ideal S4x2048x3 .f32) (ix3 b n e) = A.xyz₂ b n e
  feat₁ : ∀ b i n, (V (Proc.devRef .tc main_arg2) : FVec Ideal S4x64x8192 .f32) (ix3 b i n) = A.feat₁ b i n
  feat₂ : ∀ b i s, (V (Proc.devRef .tc main_arg3) : FVec Ideal S4x128x2048 .f32) (ix3 b i s) = A.feat₂ b i s
  w₁ : ∀ o i, (V (Proc.devRef .tc main_arg4) : FVec Ideal S128x192 .f32) (ix2 o i) = A.w₁ o i
  c₁ : ∀ o, (V (Proc.devRef .tc main_arg5) : FVec Ideal S128 .f32) (ix1 o) = A.c₁ o
  g₁ : ∀ o, (V (Proc.devRef .tc main_arg6) : FVec Ideal S128 .f32) (ix1 o) = A.g₁ o
  b₁ : ∀ o, (V (Proc.devRef .tc main_arg7) : FVec Ideal S128 .f32) (ix1 o) = A.b₁ o
  w₂ : ∀ o i, (V (Proc.devRef .tc main_arg8) : FVec Ideal S128x128 .f32) (ix2 o i) = A.w₂ o i
  c₂ : ∀ o, (V (Proc.devRef .tc main_arg9) : FVec Ideal S128 .f32) (ix1 o) = A.c₂ o
  g₂ : ∀ o, (V (Proc.devRef .tc main_arg10) : FVec Ideal S128 .f32) (ix1 o) = A.g₂ o
  b₂ : ∀ o, (V (Proc.devRef .tc main_arg11) : FVec Ideal S128 .f32) (ix1 o) = A.b₂ o
  w₃ : ∀ o i, (V (Proc.devRef .tc main_arg12) : FVec Ideal S128x128 .f32) (ix2 o i) = A.w₃ o i
  c₃ : ∀ o, (V (Proc.devRef .tc main_arg13) : FVec Ideal S128 .f32) (ix1 o) = A.c₃ o
  g₃ : ∀ o, (V (Proc.devRef .tc main_arg14) : FVec Ideal S128 .f32) (ix1 o) = A.g₃ o
  b₃ : ∀ o, (V (Proc.devRef .tc main_arg15) : FVec Ideal S128 .f32) (ix1 o) = A.b₃ o

/-- Nothing below zero. -/
def relu (y : FVec Ideal S4x128x8192 .f32) : FVec Ideal S4x128x8192 .f32 := maximumf y (broadcastInDim S4x128x8192 ![] bcast_S_S4x128x8192 (constant S_ .f32 0x00000000#32))

theorem relu_at (y : FVec Ideal S4x128x8192 .f32) (c : Fin 128) (p : Spec.Pt) : chan (relu y) c p = max (chan y c p) 0 := by
  show max (y (ix3 p.1 c p.2)) (Ideal.ofBits FTy.f32 0x00000000#32) = _
  rw [Ideal.ofBits_zero_f32]

/-- The rows read for every point. -/
def read (V : Valuation τ sig (Elt Ideal)) : FVec Ideal S4x8192x3x128 .f32 :=
  Host.gather G (transpose S4x2048x128 [0, 2, 1] (V (Proc.devRef .tc main_arg3) : FVec Ideal S4x128x2048 .f32) transposes_S4x128x2048_S4x2048x128_0_2_1)
    (pairs (wrapBatch (res_main_v27 V)) (wrapRow (res_main_v15 V)))

theorem v54_eq (V : Valuation τ sig (Elt Ideal)) : res_main_v54 V
    = fuse (transpose S4x8192x64 [0, 2, 1] (V (Proc.devRef .tc main_arg2) : FVec Ideal S4x64x8192 .f32) transposes_S4x64x8192_S4x8192x64_0_2_1) (blend (read V) (shares (res_main_v21 V)))
      (V (Proc.devRef .tc main_arg4)) (V (Proc.devRef .tc main_arg5)) := rfl
theorem v73_eq (V : Valuation τ sig (Elt Ideal)) : res_main_v73 V = relu (bn (res_main_v54 V) (V (Proc.devRef .tc main_arg6)) (V (Proc.devRef .tc main_arg7))) := rfl
theorem v78_eq (V : Valuation τ sig (Elt Ideal)) : res_main_v78 V = dense (res_main_v73 V) (V (Proc.devRef .tc main_arg8)) (V (Proc.devRef .tc main_arg9)) := rfl
theorem v102_eq (V : Valuation τ sig (Elt Ideal)) : res_main_v102 V
    = dense (relu (bn (res_main_v78 V) (V (Proc.devRef .tc main_arg10)) (V (Proc.devRef .tc main_arg11)))) (V (Proc.devRef .tc main_arg12)) (V (Proc.devRef .tc main_arg13)) := rfl
theorem v21_eq (V : Valuation τ sig (Elt Ideal)) : res_main_v21 V
    = inverse (extractStridedSlice S4x8192x3 ![0, 0, 0] (Host.sort S4x8192x2048 2 comparator_f32_d2 (res_main_v13 V)) slices_S4x8192x2048_S4x8192x3_0_0_0) := rfl

/-- The reference's result. -/
def value (V : Valuation τ sig (Elt Ideal)) : FVec Ideal S4x128x8192 .f32 :=
  relu (addf (bn (res_main_v102 V) (V (Proc.devRef .tc main_arg14)) (V (Proc.devRef .tc main_arg15))) (res_main_v73 V))

variable {V : Valuation τ sig (Elt Ideal)} {A : Spec.Args} (h : Holds V A)
include h

theorem v15_at (b : Fin 4) (n : Fin 8192) (k : Fin 3) : (res_main_v15 V : IVec S4x8192x3 32) (ix3 b n k) = BitVec.ofNat 32 (Spec.row A (b, n) k).val := by
  refine (first_at _ b n k).trans ((sort_with _ _ b n _).trans ?_)
  simp only [v13_at V A h.xyz₁ h.xyz₂]
  rfl

theorem v21_at (b : Fin 4) (n : Fin 8192) (k : Fin 3) : (res_main_v21 V : FVec Ideal S4x8192x3 .f32) (ix3 b n k) = Pay.recip (Spec.dist A (b, n) (Spec.row A (b, n) k)) := by
  rw [v21_eq]
  refine (inverse_at _ b n k).trans (congrArg Pay.recip ?_)
  refine (first_at _ b n k).trans ((sort_at _ b n _).trans ?_)
  simp only [v13_at V A h.xyz₁ h.xyz₂]
  rfl

theorem shares_v21 (b : Fin 4) (n : Fin 8192) (k : Fin 3) : shares (res_main_v21 V) (ix3 b n k) = Spec.weight A (b, n) k := by
  rw [shares_at, v21_at h, v21_at h, v21_at h, v21_at h]
  rfl

theorem read_at (b : Fin 4) (n : Fin 8192) (k : Fin 3) (i : Fin 128) : read V (ix4 b n k i) = A.feat₂ b i (Spec.row A (b, n) k) := by
  refine (gather_at _ _ b n k i b (Spec.row A (b, n) k) ?_ ?_).trans ?_
  · exact (pairs_0 _ _ b n k).trans (wrapBatch_at _ b rfl)
  · exact (pairs_1 _ _ b n k).trans (wrapRow_at _ b n k _ (v15_at h b n k))
  · rw [← h.feat₂]
    generalize (V (Proc.devRef .tc main_arg3) : FVec Ideal S4x128x2048 .f32) = x
    pointwise

theorem blend_read (b : Fin 4) (n : Fin 8192) (i : Fin 128) : blend (read V) (shares (res_main_v21 V)) (ix3 b n i) = Spec.interp A (b, n) i := by
  rw [blend_at, read_at h, read_at h, read_at h, shares_v21 h, shares_v21 h, shares_v21 h]
  rfl

theorem v54_at (o : Fin 128) : chan (res_main_v54 V) o = Spec.y₁ A o := by
  funext p
  obtain ⟨b, n⟩ := p
  rw [v54_eq]
  refine (fuse_at _ _ _ _ b o n).trans ?_
  unfold Spec.y₁
  refine congrArg₂ (· + ·) (congrArg₂ (· + ·) (Finset.sum_congr rfl fun i _ => ?_) (Finset.sum_congr rfl fun i _ => ?_)) (h.c₁ o)
  · rw [mul_comm, h.w₁, ← h.feat₁]
    generalize (V (Proc.devRef .tc main_arg2) : FVec Ideal S4x64x8192 .f32) = x
    refine congrArg _ ?_
    pointwise
  · rw [mul_comm, h.w₁, blend_read h]

theorem v73_at (o : Fin 128) (p : Spec.Pt) : chan (res_main_v73 V) o p = Spec.z₁ A o p := by
  rw [v73_eq, relu_at, bn_at, v54_at h, h.g₁, h.b₁]
  rfl

theorem v78_at (o : Fin 128) : chan (res_main_v78 V) o = Spec.y₂ A o := by
  funext p
  obtain ⟨b, n⟩ := p
  rw [v78_eq]
  refine (dense_at _ _ _ b o n).trans ?_
  unfold Spec.y₂
  refine congrArg₂ (· + ·) (Finset.sum_congr rfl fun i _ => ?_) (h.c₂ o)
  rw [mul_comm, h.w₂]
  exact congrArg _ (v73_at h i (b, n))

theorem mid_at (o : Fin 128) (p : Spec.Pt) :
    chan (relu (bn (res_main_v78 V) (V (Proc.devRef .tc main_arg10)) (V (Proc.devRef .tc main_arg11)))) o p = Spec.z₂ A o p := by
  rw [relu_at, bn_at, v78_at h, h.g₂, h.b₂]
  rfl

theorem v102_at (o : Fin 128) : chan (res_main_v102 V) o = Spec.y₃ A o := by
  funext p
  obtain ⟨b, n⟩ := p
  rw [v102_eq]
  refine (dense_at _ _ _ b o n).trans ?_
  unfold Spec.y₃
  refine congrArg₂ (· + ·) (Finset.sum_congr rfl fun i _ => ?_) (h.c₃ o)
  rw [mul_comm, h.w₃]
  exact congrArg _ (mid_at h i (b, n))

theorem value_at (o : Fin 128) (p : Spec.Pt) : chan (value V) o p = Spec.out A o p := by
  refine (relu_at _ o p).trans ?_
  refine congrArg (fun v => max v 0) (congrArg₂ (· + ·) ((bn_at _ _ _ o p).trans ?_) (v73_at h o p))
  rw [v102_at h, h.g₃, h.b₃]

end Cert.Proof.Ref

end

end
-- ==== Proof.Equal.lean ====
/-
  The kernel and the reference end with one result, where the arguments are finite.
-/
module

public import proofs.«01_k».proof.Proof.Frames
public import proofs.«01_k».proof.Proof.Finite
public import proofs.«01_k».proof.Proof.Ref

@[expose] public section

set_option maxRecDepth 16384

noncomputable section

namespace Cert.Proof

open Idealize.ShloMosaic Idealize.ShloMosaic.TcCoe Idealize.ShloMosaic.Pipeline Idealize.ShloMosaic.StableHlo Idealize.SL.Sem Cert.Proof.Run

/-- An index of the result is a batch, a channel and a point. -/
theorem idx_eq (i : Cert.KernelIdeal.S4x128x8192.Idx) : i = ix3 (i 0) (i 1) (i 2) := by
  funext a
  match a with
  | ⟨0, _⟩ => rfl
  | ⟨1, _⟩ => rfl
  | ⟨2, _⟩ => rfl

/-- One result: both sides are the specification, at every channel and point. -/
theorem same_result (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal)) (hr : (Ker.argsOf m d).Real) (hV : Ref.Holds V (Ker.argsOf m d)) :
    Ref.value V = (V₁₁ m d (Proc.devRef .tc Cert.KernelIdeal.main_v68) : FVec Ideal Cert.KernelIdeal.S4x128x8192 .f32) := by
  funext i
  rw [idx_eq i]
  exact (Ref.value_at hV (i 1) (i 0, i 2)).trans (Ker.result m d hr (i 1) (i 0, i 2)).symm

theorem algebraic : Cert.algebraic_KernelIdeal_ReferenceIdeal_pre_finite := by
  intro m g m' g' hp ha
  refine ⟨fun c => V₁₁ m c (Proc.devRef .tc Cert.KernelIdeal.main_v68), ?_, ?_⟩
  · refine (θ_run (Cert.KernelIdeal.defs (F := Ideal)) (Cert.KernelIdeal.threads (F := Ideal)) ⟨m, fun _ => 0, g⟩).mono ?_ (run_kernel (F := Ideal) m g)
    intro r h c
    refine ⟨h.1 c (Proc.devRef .tc Cert.KernelIdeal.main_v68) (by decide), ?_⟩
    refine ⟨?_, ?_, ?_, ?_, ?_, ?_, ?_, ?_, ?_, ?_, ?_, ?_, ?_, ?_, ?_, ?_⟩ <;> exact args_kept m h c _ (by decide)
  · refine (θ_run Cert.ReferenceIdeal.defs _ _).mono ?_ (Cert.ReferenceIdeal.Value.run (F := Ideal) m' g')
    intro r h c
    refine ⟨(h c).1.trans ?_, (h c).2⟩
    obtain ⟨h0, h1, h2, h3, h4, h5, h6, h7, h8, h9, h10, h11, h12, h13, h14, h15⟩ := ha c
    refine same_result m c (launchContents m' c) (Finite.real_of_finite _ _ _ _ _ _ _ _ _ _ _ _ _ _ _ _ (hp c)) ?_
    exact
      { xyz₁ := fun _ _ _ => congrFun h0 _
        xyz₂ := fun _ _ _ => congrFun h1 _
        feat₁ := fun _ _ _ => congrFun h2 _
        feat₂ := fun _ _ _ => congrFun h3 _
        w₁ := fun _ _ => congrFun h4 _
        c₁ := fun _ => congrFun h5 _
        g₁ := fun _ => congrFun h6 _
        b₁ := fun _ => congrFun h7 _
        w₂ := fun _ _ => congrFun h8 _
        c₂ := fun _ => congrFun h9 _
        g₂ := fun _ => congrFun h10 _
        b₂ := fun _ => congrFun h11 _
        w₃ := fun _ _ => congrFun h12 _
        c₃ := fun _ => congrFun h13 _
        g₃ := fun _ => congrFun h14 _
        b₃ := fun _ => congrFun h15 _ }

end Cert.Proof

end
-- ==== Proof.lean ====
/-
  The certificate: the kernel's and the reference's frames over the extended reals, and that they compute the same function.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Frames
public import proofs.«01_k».proof.Proof.Equal
public import proofs.«01_k».proof.Proof.Gen.ReferenceIdeal.Run

@[expose] public section

noncomputable section

namespace Cert.Proof

open Idealize.ShloMosaic Idealize.SL.Sem

/-- The frames under the precondition are the frames. -/
theorem frame_ideal_finite : Cert.quiescent_KernelIdeal_pre_finite := fun m g _ => frame_ideal m g trivial
theorem frame_reference_finite : Cert.quiescent_ReferenceIdeal_pre_finite := fun m g _ => frame_reference m g trivial

theorem claim : Cert.Claim :=
  ⟨Cert.Kernel.Gen.facts, Cert.KernelIdeal.Gen.facts, Cert.ReferenceIdeal.Gen.facts, Cert.Pre_finite.Gen.facts, frame_kernel, frame_ideal, frame_ideal_finite,
    frame_reference, frame_reference_finite, trivial, algebraic⟩

end Cert.Proof

end
